-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel

variable [Facts]

def fn {F : FTy → Type} [FloatOps F] (main_arg0 : FVec F S4x8192x64 .f32) (main_arg1 : FVec F S4x8192x64 .f32) (main_arg2 : FVec F S4x8192x64 .f32) (main_arg3 : FVec F S_ .f32) (main_arg4 : FVec F S_ .f32) (main_arg5 : FVec F S_ .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x64 .f32 := Host.absf main_arg1
  let main_cst_0 : FVec F S_ .f32 := constant S_ .f32 0x7F800000#32
  let main_v5 : FVec F S4x8192x64 .f32 := broadcastInDim S4x8192x64 ![] bcast_S_S4x8192x64 main_cst_0
  let main_v6 : IVec S4x8192x64 1 := cmpf .olt main_v4 main_v5
  let main_c_1 : IVec S_ 1 := constantI S_ 1 1#1
  let main_v7 : IVec S_ 1 := (fun x v => Host.reduce IntOp.andi x v reducesTo_S4x8192x64_S_d0_1_2 h_S_) main_v6 main_c_1
  let main_v8 : IVec S_ 1 := andi main_v3 main_v7
  let main_cst_2 : FVec F S_ .f32 := constant S_ .f32 0x7F800000#32
  let main_v9 : IVec S_ 1 := cmpf .olt main_arg5 main_cst_2
  let main_v10 : IVec S_ 1 := andi main_v8 main_v9
  main_v10
-- ==== Kernel.lean ====
abbrev S4x8192x64 : Shape := ⟨3, ![4, 8192, 64]⟩
abbrev S_ : Shape := ⟨0, ![]⟩
abbrev S8191 : Shape := ⟨1, ![8191]⟩
abbrev S1 : Shape := ⟨1, ![1]⟩
abbrev S8192 : Shape := ⟨1, ![8192]⟩
abbrev S8x1024 : Shape := ⟨2, ![8, 1024]⟩
abbrev S1x8192 : Shape := ⟨2, ![1, 8192]⟩
abbrev S4x64x8192 : Shape := ⟨3, ![4, 64, 8192]⟩
abbrev S4x1x8192 : Shape := ⟨3, ![4, 1, 8192]⟩
abbrev S4x65x8192 : Shape := ⟨3, ![4, 65, 8192]⟩
abbrev S1x1024x64 : Shape := ⟨3, ![1, 1024, 64]⟩
abbrev S1x512x64 : Shape := ⟨3, ![1, 512, 64]⟩
abbrev S1x65x512 : Shape := ⟨3, ![1, 65, 512]⟩
abbrev S1x512 : Shape := ⟨2, ![1, 512]⟩
abbrev S1x64x1024 : Shape := ⟨3, ![1, 64, 1024]⟩
abbrev S65x1024 : Shape := ⟨2, ![65, 1024]⟩
abbrev S1x1024 : Shape := ⟨2, ![1, 1024]⟩
abbrev S1024x64 : Shape := ⟨2, ![1024, 64]⟩
abbrev S512x64 : Shape := ⟨2, ![512, 64]⟩
abbrev S512x1024 : Shape := ⟨2, ![512, 1024]⟩
abbrev S1024 : Shape := ⟨1, ![1024]⟩
abbrev S65x512 : Shape := ⟨2, ![65, 512]⟩
abbrev S64x1024 : Shape := ⟨2, ![64, 1024]⟩

abbrev nBuf : Space → Nat
  | .hbm => 41
  | .vmem => 14
  | .smem => 3
  | _ => 0

abbrev bufTy : (tb : Table) → Fin (tcTables nBuf tb) → BufTy
  | .hbm, ⟨0, _⟩ => ⟨S4x8192x64, .f32⟩
  | .hbm, ⟨1, _⟩ => ⟨S4x8192x64, .f32⟩
  | .hbm, ⟨2, _⟩ => ⟨S4x8192x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8191, .f32⟩
  | .hbm, ⟨14, _⟩ => ⟨S_, .f32⟩
  | .hbm, ⟨15, _⟩ => ⟨S8191, .f32⟩
  | .hbm, ⟨16, _⟩ => ⟨S8191, .f32⟩
  | .hbm, ⟨17, _⟩ => ⟨S1, .f32⟩
  | .hbm, ⟨18, _⟩ => ⟨S_, .f32⟩
  | .hbm, ⟨19, _⟩ => ⟨S8191, .f32⟩
  | .hbm, ⟨20, _⟩ => ⟨S8191, .f32⟩
  | .hbm, ⟨21, _⟩ => ⟨S8191, .f32⟩
  | .hbm, ⟨22, _⟩ => ⟨S8191, .f32⟩
  | .hbm, ⟨23, _⟩ => ⟨S1, .f32⟩
  | .hbm, ⟨24, _⟩ => ⟨S8191, .f32⟩
  | .hbm, ⟨25, _⟩ => ⟨S8191, .f32⟩
  | .hbm, ⟨26, _⟩ => ⟨S8191, .f32⟩
  | .hbm, ⟨27, _⟩ => ⟨S1, .f32⟩
  | .hbm, ⟨28, _⟩ => ⟨S8192, .f32⟩
  | .hbm, ⟨29, _⟩ => ⟨S8x1024, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S8x1024, .f32⟩
  | .hbm, ⟨34, _⟩ => ⟨S1x8192, .f32⟩
  | .hbm, ⟨35, _⟩ => ⟨S4x64x8192, .f32⟩
  | .hbm, ⟨36, _⟩ => ⟨S_, .f32⟩
  | .hbm, ⟨37, _⟩ => ⟨S4x1x8192, .f32⟩
  | .hbm, ⟨38, _⟩ => ⟨S4x65x8192, .f32⟩
  | .hbm, ⟨39, _⟩ => ⟨S4x64x8192, .f32⟩
  | .hbm, ⟨40, _⟩ => ⟨S4x8192x64, .f32⟩
  | .local _ .vmem, ⟨0, _⟩ => ⟨S8x1024, .f32⟩
  | .local _ .vmem, ⟨1, _⟩ => ⟨S8x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x512x64, .f32⟩
  | .local _ .vmem, ⟨5, _⟩ => ⟨S1x512x64, .f32⟩
  | .local _ .vmem, ⟨6, _⟩ => ⟨S1x65x512, .f32⟩
  | .local _ .vmem, ⟨7, _⟩ => ⟨S1x65x512, .f32⟩
  | .local _ .vmem, ⟨8, _⟩ => ⟨S1x512, .f32⟩
  | .local _ .vmem, ⟨9, _⟩ => ⟨S1x512, .f32⟩
  | .local _ .vmem, ⟨10, _⟩ => ⟨S1x64x1024, .f32⟩
  | .local _ .vmem, ⟨11, _⟩ => ⟨S1x64x1024, .f32⟩
  | .local _ .vmem, ⟨12, _⟩ => ⟨S65x1024, .f32⟩
  | .local _ .vmem, ⟨13, _⟩ => ⟨S1x1024, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev cc0_stg3_0 : Ref sig .tc := ⟨.vmem, 0, rfl⟩
abbrev cc0_stg4_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc1_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨3, ![4, 8, 16], ![false, false, false]⟩

def k1_cond2 (i : grid1.Coords) : BitVec 1 :=
  let arg2 : BitVec 32 := BitVec.ofNat 32 (i 2).val
  let c15_i32 : BitVec 32 := 15#32
  let v36 : BitVec 1 := Scalar.cmpi .eq arg2 c15_i32
  let v37 : BitVec 32 := Scalar.extui v36
  let c0_i32_22 : BitVec 32 := 0#32
  let v38 : BitVec 1 := Scalar.cmpi .ne v37 c0_i32_22
  v38

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x65x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x64x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]
-- ==== ReferenceIdeal.lean ====
abbrev S4x8192x64 : Shape := ⟨3, ![4, 8192, 64]⟩
abbrev S_ : Shape := ⟨0, ![]⟩
abbrev S8191 : Shape := ⟨1, ![8191]⟩
abbrev S1 : Shape := ⟨1, ![1]⟩
abbrev S8192 : Shape := ⟨1, ![8192]⟩
abbrev S64 : Shape := ⟨1, ![64]⟩
abbrev S4x8192x8192 : Shape := ⟨3, ![4, 8192, 8192]⟩
abbrev S1x1x8192 : Shape := ⟨3, ![1, 1, 8192]⟩
abbrev S4x8192 : Shape := ⟨2, ![4, 8192]⟩
abbrev S4x8192x1 : Shape := ⟨3, ![4, 8192, 1]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x64, .f32⟩
  | .hbm, ⟨2, _⟩ => ⟨S4x8192x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8191, .f32⟩
  | .hbm, ⟨14, _⟩ => ⟨S_, .f32⟩
  | .hbm, ⟨15, _⟩ => ⟨S8191, .f32⟩
  | .hbm, ⟨16, _⟩ => ⟨S8191, .f32⟩
  | .hbm, ⟨17, _⟩ => ⟨S1, .f32⟩
  | .hbm, ⟨18, _⟩ => ⟨S_, .f32⟩
  | .hbm, ⟨19, _⟩ => ⟨S8191, .f32⟩
  | .hbm, ⟨20, _⟩ => ⟨S8191, .f32⟩
  | .hbm, ⟨21, _⟩ => ⟨S8191, .f32⟩
  | .hbm, ⟨22, _⟩ => ⟨S8191, .f32⟩
  | .hbm, ⟨23, _⟩ => ⟨S1, .f32⟩
  | .hbm, ⟨24, _⟩ => ⟨S8191, .f32⟩
  | .hbm, ⟨25, _⟩ => ⟨S8191, .f32⟩
  | .hbm, ⟨26, _⟩ => ⟨S8191, .f32⟩
  | .hbm, ⟨27, _⟩ => ⟨S1, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S_, .i1⟩
  | .hbm, ⟨32, _⟩ => ⟨S8192, .i1⟩
  | .hbm, ⟨33, _⟩ => ⟨S_, .f32⟩
  | .hbm, ⟨34, _⟩ => ⟨S8192, .f32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S_, .f32⟩
  | .hbm, ⟨39, _⟩ => ⟨S_, .f32⟩
  | .hbm, ⟨40, _⟩ => ⟨S_, .i32⟩
  | .hbm, ⟨41, _⟩ => ⟨S8192, .f32⟩
  | .hbm, ⟨42, _⟩ => ⟨S8192, .f32⟩
  | .hbm, ⟨43, _⟩ => ⟨S8192, .i1⟩
  | .hbm, ⟨44, _⟩ => ⟨S8192, .f32⟩
  | .hbm, ⟨45, _⟩ => ⟨S_, .i32⟩
  | .hbm, ⟨46, _⟩ => ⟨S_, .i1⟩
  | .hbm, ⟨47, _⟩ => ⟨S1, .i32⟩
  | .hbm, ⟨48, _⟩ => ⟨S_, .i32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S8192, .i1⟩
  | .hbm, ⟨66, _⟩ => ⟨S_, .f32⟩
  | .hbm, ⟨67, _⟩ => ⟨S8192, .f32⟩
  | .hbm, ⟨68, _⟩ => ⟨S8192, .i1⟩
  | .hbm, ⟨69, _⟩ => ⟨S8192, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .i1⟩
  | .hbm, ⟨76, _⟩ => ⟨S_, .i32⟩
  | .hbm, ⟨77, _⟩ => ⟨S_, .i32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S4x8192x8192, .f32⟩
  | .hbm, ⟨86, _⟩ => ⟨S_, .f32⟩
  | .hbm, ⟨87, _⟩ => ⟨S4x8192x8192, .f32⟩
  | .hbm, ⟨88, _⟩ => ⟨S4x8192x8192, .f32⟩
  | .hbm, ⟨89, _⟩ => ⟨S1x1x8192, .f32⟩
  | .hbm, ⟨90, _⟩ => ⟨S4x8192x8192, .f32⟩
  | .hbm, ⟨91, _⟩ => ⟨S4x8192x8192, .f32⟩
  | .hbm, ⟨92, _⟩ => ⟨S_, .f32⟩
  | .hbm, ⟨93, _⟩ => ⟨S4x8192, .f32⟩
  | .hbm, ⟨94, _⟩ => ⟨S_, .f32⟩
  | .hbm, ⟨95, _⟩ => ⟨S4x8192, .f32⟩
  | .hbm, ⟨96, _⟩ => ⟨S4x8192, .f32⟩
  | .hbm, ⟨97, _⟩ => ⟨S4x8192x1, .f32⟩
  | .hbm, ⟨98, _⟩ => ⟨S4x8192x8192, .f32⟩
  | .hbm, ⟨99, _⟩ => ⟨S4x8192x8192, .f32⟩
  | .hbm, ⟨100, _⟩ => ⟨S4x8192x8192, .f32⟩
  | .hbm, ⟨101, _⟩ => ⟨S_, .f32⟩
  | .hbm, ⟨102, _⟩ => ⟨S4x8192, .f32⟩
  | .hbm, ⟨103, _⟩ => ⟨S4x8192x1, .f32⟩
  | .hbm, ⟨104, _⟩ => ⟨S4x8192x8192, .f32⟩
  | .hbm, ⟨105, _⟩ => ⟨S4x8192x8192, .f32⟩
  | .hbm, ⟨106, _⟩ => ⟨S4x8192x64, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_cst_1 : Ref sig .tc := ⟨.hbm, 29, rfl⟩
abbrev main_v1 : Ref sig .tc := ⟨.hbm, 30, rfl⟩
abbrev main_c : Ref sig .tc := ⟨.hbm, 31, rfl⟩
abbrev main_v2 : Ref sig .tc := ⟨.hbm, 32, rfl⟩
abbrev main_cst_2 : Ref sig .tc := ⟨.hbm, 33, rfl⟩
abbrev main_v3 : Ref sig .tc := ⟨.hbm, 34, rfl⟩
abbrev main_v4 : Ref sig .tc := ⟨.hbm, 35, rfl⟩
abbrev main_c_3 : Ref sig .tc := ⟨.hbm, 36, rfl⟩
abbrev main_v5_0 : Ref sig .tc := ⟨.hbm, 37, rfl⟩
abbrev main_v5_1 : Ref sig .tc := ⟨.hbm, 38, rfl⟩
abbrev main_v5_2 : Ref sig .tc := ⟨.hbm, 39, rfl⟩
abbrev main_v5_3 : Ref sig .tc := ⟨.hbm, 40, rfl⟩
abbrev main_v5_4 : Ref sig .tc := ⟨.hbm, 41, rfl⟩
abbrev main_v5_5 : Ref sig .tc := ⟨.hbm, 42, rfl⟩
abbrev main_v5_6 : Ref sig .tc := ⟨.hbm, 43, rfl⟩
abbrev main_v5_7 : Ref sig .tc := ⟨.hbm, 44, rfl⟩
abbrev main_while0c_c_16 : Ref sig .tc := ⟨.hbm, 45, rfl⟩
abbrev main_while0c_v30 : Ref sig .tc := ⟨.hbm, 46, rfl⟩
abbrev main_while0b_call1_v0 : Ref sig .tc := ⟨.hbm, 47, rfl⟩
abbrev main_while0b_v30 : Ref sig .tc := ⟨.hbm, 48, rfl⟩
abbrev main_while0b_v31 : Ref sig .tc := ⟨.hbm, 49, rfl⟩
abbrev main_while0b_v32 : Ref sig .tc := ⟨.hbm, 50, rfl⟩
abbrev main_while0b_v33 : Ref sig .tc := ⟨.hbm, 51, rfl⟩
abbrev main_while0b_v34 : Ref sig .tc := ⟨.hbm, 52, rfl⟩
abbrev main_while0b_v35 : Ref sig .tc := ⟨.hbm, 53, rfl⟩
abbrev main_while0b_cst_16 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_v39 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_cst_17 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_v50 : Ref sig .tc := ⟨.hbm, 70, rfl⟩
abbrev main_while0b_cst_18 : Ref sig .tc := ⟨.hbm, 71, rfl⟩
abbrev main_while0b_v51 : Ref sig .tc := ⟨.hbm, 72, rfl⟩
abbrev main_while0b_call4_v0 : Ref sig .tc := ⟨.hbm, 73, rfl⟩
abbrev main_while0b_v52 : Ref sig .tc := ⟨.hbm, 74, rfl⟩
abbrev main_while0b_v53 : Ref sig .tc := ⟨.hbm, 75, rfl⟩
abbrev main_while0b_c_19 : Ref sig .tc := ⟨.hbm, 76, rfl⟩
abbrev main_while0b_v54 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_cst_4 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_cst_5 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_cst_6 : Ref sig .tc := ⟨.hbm, 92, rfl⟩
abbrev main_v18 : Ref sig .tc := ⟨.hbm, 93, rfl⟩
abbrev main_cst_7 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_cst_8 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩

abbrev nD : Nat := 1
abbrev τ : Topo := Topo.v7x

variable {F : FTy → Type} [FloatOps F]

abbrev main_while0_count : Scf.Loop 32 := ⟨0#32, 64#32, 1#32⟩
-- ==== Proof.Weight.lean ====
/-
  What the first kernel's body computes, as sixty-four equal steps of one escape-time iteration.

  The printed body is one straight line of some 1400 vector operations, cut by the printer into
  twenty-eight parts at places that fall anywhere inside an iteration. This module names the state
  of the iteration (the two coordinates, the flags of the points that have escaped, the recorded
  escape times), one step of it, and proves of each part that, entered with the values a state
  determines, it leaves the values the state some steps later determines.
-/
module

public import proofs.«01_k».proof.Proof.Gen.KernelIdeal.Skeleton

@[expose] public section

set_option maxRecDepth 65536

noncomputable section

namespace Cert.KernelIdeal.Hand

open Idealize.ShloMosaic Idealize.SL.Sem Cert.KernelIdeal Cert.KernelIdeal.Gen

variable {F : FTy → Type} [FloatOps F]

/-- The state of the iteration: both coordinates of every point, which points have escaped, and
    the escape time recorded for each. -/
structure St (F : FTy → Type) [FloatOps F] where
  /-- the real coordinate of every point -/
  zr : FVec F S8x1024 .f32
  /-- the imaginary coordinate of every point -/
  zi : FVec F S8x1024 .f32
  /-- the flag of every point that has escaped -/
  esc : IVec S8x1024 1
  /-- the escape time recorded for every point -/
  et : FVec F S8x1024 .f32

/-- The real coordinate of `z² + c`. -/
def nzr (v2 : F .f32) (s : St F) : FVec F S8x1024 .f32 :=
  addf (subf (mulf s.zr s.zr) (mulf s.zi s.zi)) (broadcast S8x1024 v2)
/-- The imaginary coordinate of `z² + c`. -/
def nzi (v3 : F .f32) (s : St F) : FVec F S8x1024 .f32 :=
  addf (mulf (mulf (broadcast S8x1024 (Scalar.ofBits .f32 0x40000000#32)) s.zr) s.zi) (broadcast S8x1024 v3)
/-- The real coordinate after the step: an escaped point stays where it is. -/
def zr1 (v2 : F .f32) (s : St F) : FVec F S8x1024 .f32 := select s.esc s.zr (nzr v2 s)
/-- The imaginary coordinate after the step. -/
def zi1 (v3 : F .f32) (s : St F) : FVec F S8x1024 .f32 := select s.esc s.zi (nzi v3 s)
/-- The squared modulus after the step. -/
def mag (v2 v3 : F .f32) (s : St F) : FVec F S8x1024 .f32 :=
  addf (mulf (zr1 v2 s) (zr1 v2 s)) (mulf (zi1 v3 s) (zi1 v3 s))
/-- The points that escape at this step. -/
def newly (v2 v3 : F .f32) (s : St F) : IVec S8x1024 1 :=
  andi (xori s.esc (constantI S8x1024 1 1#1))
    (cmpf .ogt (mag v2 v3 s) (broadcast S8x1024 (Scalar.ofBits .f32 0x40800000#32)))
/-- The recorded escape times after the step, `c` being this step's time. -/
def et1 (v2 v3 c : F .f32) (s : St F) : FVec F S8x1024 .f32 :=
  select (newly v2 v3 s) (broadcast S8x1024 c) s.et
/-- One step of the iteration. -/
def step (v2 v3 c : F .f32) (s : St F) : St F :=
  ⟨zr1 v2 s, zi1 v3 s, ori s.esc (newly v2 v3 s), et1 v2 v3 c s⟩
/-- The state before the first step, from the vector of starting points. -/
def start (v0 : Vec F S8x1024 .f32) : St F :=
  ⟨shapeCast S8x1024 v0 shapeCasts_S8x1024_S8x1024,
    broadcast S8x1024 (Scalar.ofBits .f32 0x00000000#32), broadcast S8x1024 0#1,
    broadcast S8x1024 (Scalar.ofBits .f32 0x3F800000#32)⟩

/-- The bit patterns of the step times `0/64, 1/64, …, 63/64`. -/
def times : List (BitVec 32) := [
  0x00000000#32, 0x3C800000#32, 0x3D000000#32, 0x3D400000#32, 0x3D800000#32, 0x3DA00000#32, 0x3DC00000#32, 0x3DE00000#32,
  0x3E000000#32, 0x3E100000#32, 0x3E200000#32, 0x3E300000#32, 0x3E400000#32, 0x3E500000#32, 0x3E600000#32, 0x3E700000#32,
  0x3E800000#32, 0x3E880000#32, 0x3E900000#32, 0x3E980000#32, 0x3EA00000#32, 0x3EA80000#32, 0x3EB00000#32, 0x3EB80000#32,
  0x3EC00000#32, 0x3EC80000#32, 0x3ED00000#32, 0x3ED80000#32, 0x3EE00000#32, 0x3EE80000#32, 0x3EF00000#32, 0x3EF80000#32,
  0x3F000000#32, 0x3F040000#32, 0x3F080000#32, 0x3F0C0000#32, 0x3F100000#32, 0x3F140000#32, 0x3F180000#32, 0x3F1C0000#32,
  0x3F200000#32, 0x3F240000#32, 0x3F280000#32, 0x3F2C0000#32, 0x3F300000#32, 0x3F340000#32, 0x3F380000#32, 0x3F3C0000#32,
  0x3F400000#32, 0x3F440000#32, 0x3F480000#32, 0x3F4C0000#32, 0x3F500000#32, 0x3F540000#32, 0x3F580000#32, 0x3F5C0000#32,
  0x3F600000#32, 0x3F640000#32, 0x3F680000#32, 0x3F6C0000#32, 0x3F700000#32, 0x3F740000#32, 0x3F780000#32, 0x3F7C0000#32]

/-- The state after the steps with the given times. -/
def run (v2 v3 : F .f32) (ts : List (BitVec 32)) (s : St F) : St F :=
  ts.foldl (fun s b => step v2 v3 (Scalar.ofBits .f32 b) s) s

/-- What the kernel stores: `exp (et · es) + 1e-8` at the escape times after all the steps. -/
def weight (v0 : Vec F S8x1024 .f32) (v2 v3 v4 : F .f32) : FVec F S8x1024 .f32 :=
  addf (exp (mulf (run v2 v3 times (start v0)).et (broadcast S8x1024 v4)))
    (broadcast S8x1024 (Scalar.ofBits .f32 0x322BCC77#32))

/-! ## The parts -/

/-- Part 1 leaves `v28` as the state after 1 step(s) determines it. -/
theorem part1_v28 (v0 : Vec F S8x1024 .f32) (v2 v3 : F .f32) :
    k0_pay8 v0 v2 v3 = (step v2 v3 (Scalar.ofBits .f32 0x00000000#32) (start v0)).et := rfl

/-- Part 1 leaves `v29` as the state after 1 step(s) determines it. -/
theorem part1_v29 (v0 : Vec F S8x1024 .f32) (v2 v3 : F .f32) :
    k0_pay9 v0 v2 v3 = (step v2 v3 (Scalar.ofBits .f32 0x00000000#32) (start v0)).esc := rfl

/-- Part 1 leaves `v40` as the state after 1 step(s) determines it. -/
theorem part1_v40 (v0 : Vec F S8x1024 .f32) (v2 v3 : F .f32) :
    k0_pay10 v0 v2 v3 = (zr1 v2 (step v2 v3 (Scalar.ofBits .f32 0x00000000#32) (start v0))) := rfl

/-- Part 1 leaves `v41` as the state after 1 step(s) determines it. -/
theorem part1_v41 (v0 : Vec F S8x1024 .f32) (v2 v3 : F .f32) :
    k0_pay11 v0 v2 v3 = (zi1 v3 (step v2 v3 (Scalar.ofBits .f32 0x00000000#32) (start v0))) := rfl

/-- Part 1 leaves `v44` as the state after 1 step(s) determines it. -/
theorem part1_v44 (v0 : Vec F S8x1024 .f32) (v2 v3 : F .f32) :
    k0_pay12 v0 v2 v3 = (mag v2 v3 (step v2 v3 (Scalar.ofBits .f32 0x00000000#32) (start v0))) := rfl

/-- Part 1 leaves `v45` as the state after 1 step(s) determines it. -/
theorem part1_v45 (v0 : Vec F S8x1024 .f32) (v2 v3 : F .f32) :
    k0_pay13 v0 v2 v3 = (xori (step v2 v3 (Scalar.ofBits .f32 0x00000000#32) (start v0)).esc (constantI S8x1024 1 1#1)) := rfl

/-- Part 2, entered after 1 steps, leaves the values the state after 4 steps determines. -/
theorem part2_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part2 (F := F) arg0 harg0 arg1 harg1 arg2 harg2 arg3 harg3 arg4 harg4 v2 v3 s.et s.esc (zr1 v2 s) (zi1 v3 s) (mag v2 v3 s) (xori s.esc (constantI S8x1024 1 1#1))
      = (pure ⟨(step v2 v3 (Scalar.ofBits .f32 0x3D400000#32) (step v2 v3 (Scalar.ofBits .f32 0x3D000000#32) (step v2 v3 (Scalar.ofBits .f32 0x3C800000#32) s))).zr, (step v2 v3 (Scalar.ofBits .f32 0x3D400000#32) (step v2 v3 (Scalar.ofBits .f32 0x3D000000#32) (step v2 v3 (Scalar.ofBits .f32 0x3C800000#32) s))).zi, (step v2 v3 (Scalar.ofBits .f32 0x3D400000#32) (step v2 v3 (Scalar.ofBits .f32 0x3D000000#32) (step v2 v3 (Scalar.ofBits .f32 0x3C800000#32) s))).et, (step v2 v3 (Scalar.ofBits .f32 0x3D400000#32) (step v2 v3 (Scalar.ofBits .f32 0x3D000000#32) (step v2 v3 (Scalar.ofBits .f32 0x3C800000#32) s))).esc⟩ : Prog (TpuEff nD τ sig (Elt F) Λ₀ .tc) (Σ' (v84 : FVec F S8x1024 .f32) (v85 : FVec F S8x1024 .f32) (v94 : FVec F S8x1024 .f32), IVec S8x1024 1)) := rfl

/-- Part 3, entered after 4 steps, leaves the values the state after 6 steps determines. -/
theorem part3_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part3 (F := F) arg0 harg0 arg1 harg1 arg2 harg2 arg3 harg3 arg4 harg4 v2 v3 s.zr s.zi s.et s.esc
      = (pure ⟨(step v2 v3 (Scalar.ofBits .f32 0x3DA00000#32) (step v2 v3 (Scalar.ofBits .f32 0x3D800000#32) s)).zr, (step v2 v3 (Scalar.ofBits .f32 0x3DA00000#32) (step v2 v3 (Scalar.ofBits .f32 0x3D800000#32) s)).zi, (step v2 v3 (Scalar.ofBits .f32 0x3DA00000#32) (step v2 v3 (Scalar.ofBits .f32 0x3D800000#32) s)).et, (step v2 v3 (Scalar.ofBits .f32 0x3DA00000#32) (step v2 v3 (Scalar.ofBits .f32 0x3D800000#32) s)).esc, (nzr v2 (step v2 v3 (Scalar.ofBits .f32 0x3DA00000#32) (step v2 v3 (Scalar.ofBits .f32 0x3D800000#32) s))), (mulf (broadcast S8x1024 (Scalar.ofBits .f32 0x40000000#32)) (step v2 v3 (Scalar.ofBits .f32 0x3DA00000#32) (step v2 v3 (Scalar.ofBits .f32 0x3D800000#32) s)).zr)⟩ : Prog (TpuEff nD τ sig (Elt F) Λ₀ .tc) (Σ' (v128 : FVec F S8x1024 .f32) (v129 : FVec F S8x1024 .f32) (v138 : FVec F S8x1024 .f32) (v139 : IVec S8x1024 1) (v144 : FVec F S8x1024 .f32), FVec F S8x1024 .f32)) := rfl

/-- Part 4, entered after 6 steps, leaves the values the state after 8 steps determines. -/
theorem part4_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part4 (F := F) arg0 harg0 arg1 harg1 arg2 harg2 arg3 harg3 arg4 harg4 v2 v3 s.zr s.zi s.et s.esc (nzr v2 s) (mulf (broadcast S8x1024 (Scalar.ofBits .f32 0x40000000#32)) s.zr)
      = (pure ⟨(step v2 v3 (Scalar.ofBits .f32 0x3DE00000#32) (step v2 v3 (Scalar.ofBits .f32 0x3DC00000#32) s)).et, (step v2 v3 (Scalar.ofBits .f32 0x3DE00000#32) (step v2 v3 (Scalar.ofBits .f32 0x3DC00000#32) s)).esc, (zr1 v2 (step v2 v3 (Scalar.ofBits .f32 0x3DE00000#32) (step v2 v3 (Scalar.ofBits .f32 0x3DC00000#32) s))), (zi1 v3 (step v2 v3 (Scalar.ofBits .f32 0x3DE00000#32) (step v2 v3 (Scalar.ofBits .f32 0x3DC00000#32) s))), (mag v2 v3 (step v2 v3 (Scalar.ofBits .f32 0x3DE00000#32) (step v2 v3 (Scalar.ofBits .f32 0x3DC00000#32) s)))⟩ : Prog (TpuEff nD τ sig (Elt F) Λ₀ .tc) (Σ' (v182 : FVec F S8x1024 .f32) (v183 : IVec S8x1024 1) (v194 : FVec F S8x1024 .f32) (v195 : FVec F S8x1024 .f32), FVec F S8x1024 .f32)) := rfl

/-- Part 5, entered after 8 steps, leaves the values the state after 10 steps determines. -/
theorem part5_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part5 (F := F) arg0 harg0 arg1 harg1 arg2 harg2 arg3 harg3 arg4 harg4 v2 v3 s.et s.esc (zr1 v2 s) (zi1 v3 s) (mag v2 v3 s)
      = (pure ⟨(step v2 v3 (Scalar.ofBits .f32 0x3E100000#32) (step v2 v3 (Scalar.ofBits .f32 0x3E000000#32) s)).et, (step v2 v3 (Scalar.ofBits .f32 0x3E100000#32) (step v2 v3 (Scalar.ofBits .f32 0x3E000000#32) s)).esc, (zr1 v2 (step v2 v3 (Scalar.ofBits .f32 0x3E100000#32) (step v2 v3 (Scalar.ofBits .f32 0x3E000000#32) s))), (zi1 v3 (step v2 v3 (Scalar.ofBits .f32 0x3E100000#32) (step v2 v3 (Scalar.ofBits .f32 0x3E000000#32) s))), (newly v2 v3 (step v2 v3 (Scalar.ofBits .f32 0x3E100000#32) (step v2 v3 (Scalar.ofBits .f32 0x3E000000#32) s))), (broadcast S8x1024 (Scalar.ofBits .f32 0x3E200000#32))⟩ : Prog (TpuEff nD τ sig (Elt F) Λ₀ .tc) (Σ' (v226 : FVec F S8x1024 .f32) (v227 : IVec S8x1024 1) (v238 : FVec F S8x1024 .f32) (v239 : FVec F S8x1024 .f32) (v246 : IVec S8x1024 1), FVec F S8x1024 .f32)) := rfl

/-- Part 6, entered after 10 steps, leaves the values the state after 13 steps determines. -/
theorem part6_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part6 (F := F) arg0 harg0 arg1 harg1 arg2 harg2 arg3 harg3 arg4 harg4 v2 v3 s.et s.esc (zr1 v2 s) (zi1 v3 s) (newly v2 v3 s) (broadcast S8x1024 (Scalar.ofBits .f32 0x3E200000#32))
      = (pure ⟨(step v2 v3 (Scalar.ofBits .f32 0x3E400000#32) (step v2 v3 (Scalar.ofBits .f32 0x3E300000#32) (step v2 v3 (Scalar.ofBits .f32 0x3E200000#32) s))).zr, (step v2 v3 (Scalar.ofBits .f32 0x3E400000#32) (step v2 v3 (Scalar.ofBits .f32 0x3E300000#32) (step v2 v3 (Scalar.ofBits .f32 0x3E200000#32) s))).zi, (step v2 v3 (Scalar.ofBits .f32 0x3E400000#32) (step v2 v3 (Scalar.ofBits .f32 0x3E300000#32) (step v2 v3 (Scalar.ofBits .f32 0x3E200000#32) s))).et, (step v2 v3 (Scalar.ofBits .f32 0x3E400000#32) (step v2 v3 (Scalar.ofBits .f32 0x3E300000#32) (step v2 v3 (Scalar.ofBits .f32 0x3E200000#32) s))).esc, (nzr v2 (step v2 v3 (Scalar.ofBits .f32 0x3E400000#32) (step v2 v3 (Scalar.ofBits .f32 0x3E300000#32) (step v2 v3 (Scalar.ofBits .f32 0x3E200000#32) s)))), (Scalar.ofBits .f32 0x40000000#32 : F .f32)⟩ : Prog (TpuEff nD τ sig (Elt F) Λ₀ .tc) (Σ' (v282 : FVec F S8x1024 .f32) (v283 : FVec F S8x1024 .f32) (v292 : FVec F S8x1024 .f32) (v293 : IVec S8x1024 1) (v298 : FVec F S8x1024 .f32), F .f32)) := rfl

/-- Part 7, entered after 13 steps, leaves the values the state after 15 steps determines. -/
theorem part7_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part7 (F := F) arg0 harg0 arg1 harg1 arg2 harg2 arg3 harg3 arg4 harg4 v2 v3 s.zr s.zi s.et s.esc (nzr v2 s) (Scalar.ofBits .f32 0x40000000#32 : F .f32)
      = (pure ⟨(step v2 v3 (Scalar.ofBits .f32 0x3E600000#32) (step v2 v3 (Scalar.ofBits .f32 0x3E500000#32) s)).et, (step v2 v3 (Scalar.ofBits .f32 0x3E600000#32) (step v2 v3 (Scalar.ofBits .f32 0x3E500000#32) s)).esc, (zr1 v2 (step v2 v3 (Scalar.ofBits .f32 0x3E600000#32) (step v2 v3 (Scalar.ofBits .f32 0x3E500000#32) s))), (zi1 v3 (step v2 v3 (Scalar.ofBits .f32 0x3E600000#32) (step v2 v3 (Scalar.ofBits .f32 0x3E500000#32) s))), (mulf (zr1 v2 (step v2 v3 (Scalar.ofBits .f32 0x3E600000#32) (step v2 v3 (Scalar.ofBits .f32 0x3E500000#32) s))) (zr1 v2 (step v2 v3 (Scalar.ofBits .f32 0x3E600000#32) (step v2 v3 (Scalar.ofBits .f32 0x3E500000#32) s))))⟩ : Prog (TpuEff nD τ sig (Elt F) Λ₀ .tc) (Σ' (v336 : FVec F S8x1024 .f32) (v337 : IVec S8x1024 1) (v348 : FVec F S8x1024 .f32) (v349 : FVec F S8x1024 .f32), FVec F S8x1024 .f32)) := rfl

/-- Part 8, entered after 15 steps, leaves the values the state after 17 steps determines. -/
theorem part8_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part8 (F := F) arg0 harg0 arg1 harg1 arg2 harg2 arg3 harg3 arg4 harg4 v2 v3 s.et s.esc (zr1 v2 s) (zi1 v3 s) (mulf (zr1 v2 s) (zr1 v2 s))
      = (pure ⟨(step v2 v3 (Scalar.ofBits .f32 0x3E800000#32) (step v2 v3 (Scalar.ofBits .f32 0x3E700000#32) s)).et, (step v2 v3 (Scalar.ofBits .f32 0x3E800000#32) (step v2 v3 (Scalar.ofBits .f32 0x3E700000#32) s)).esc, (zr1 v2 (step v2 v3 (Scalar.ofBits .f32 0x3E800000#32) (step v2 v3 (Scalar.ofBits .f32 0x3E700000#32) s))), (zi1 v3 (step v2 v3 (Scalar.ofBits .f32 0x3E800000#32) (step v2 v3 (Scalar.ofBits .f32 0x3E700000#32) s))), (newly v2 v3 (step v2 v3 (Scalar.ofBits .f32 0x3E800000#32) (step v2 v3 (Scalar.ofBits .f32 0x3E700000#32) s)))⟩ : Prog (TpuEff nD τ sig (Elt F) Λ₀ .tc) (Σ' (v380 : FVec F S8x1024 .f32) (v381 : IVec S8x1024 1) (v392 : FVec F S8x1024 .f32) (v393 : FVec F S8x1024 .f32), IVec S8x1024 1)) := rfl

/-- Part 9, entered after 17 steps, leaves the values the state after 20 steps determines. -/
theorem part9_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part9 (F := F) arg0 harg0 arg1 harg1 arg2 harg2 arg3 harg3 arg4 harg4 v2 v3 s.et s.esc (zr1 v2 s) (zi1 v3 s) (newly v2 v3 s)
      = (pure ⟨(step v2 v3 (Scalar.ofBits .f32 0x3E980000#32) (step v2 v3 (Scalar.ofBits .f32 0x3E900000#32) (step v2 v3 (Scalar.ofBits .f32 0x3E880000#32) s))).zr, (step v2 v3 (Scalar.ofBits .f32 0x3E980000#32) (step v2 v3 (Scalar.ofBits .f32 0x3E900000#32) (step v2 v3 (Scalar.ofBits .f32 0x3E880000#32) s))).zi, (step v2 v3 (Scalar.ofBits .f32 0x3E980000#32) (step v2 v3 (Scalar.ofBits .f32 0x3E900000#32) (step v2 v3 (Scalar.ofBits .f32 0x3E880000#32) s))).et, (step v2 v3 (Scalar.ofBits .f32 0x3E980000#32) (step v2 v3 (Scalar.ofBits .f32 0x3E900000#32) (step v2 v3 (Scalar.ofBits .f32 0x3E880000#32) s))).esc, (subf (mulf (step v2 v3 (Scalar.ofBits .f32 0x3E980000#32) (step v2 v3 (Scalar.ofBits .f32 0x3E900000#32) (step v2 v3 (Scalar.ofBits .f32 0x3E880000#32) s))).zr (step v2 v3 (Scalar.ofBits .f32 0x3E980000#32) (step v2 v3 (Scalar.ofBits .f32 0x3E900000#32) (step v2 v3 (Scalar.ofBits .f32 0x3E880000#32) s))).zr) (mulf (step v2 v3 (Scalar.ofBits .f32 0x3E980000#32) (step v2 v3 (Scalar.ofBits .f32 0x3E900000#32) (step v2 v3 (Scalar.ofBits .f32 0x3E880000#32) s))).zi (step v2 v3 (Scalar.ofBits .f32 0x3E980000#32) (step v2 v3 (Scalar.ofBits .f32 0x3E900000#32) (step v2 v3 (Scalar.ofBits .f32 0x3E880000#32) s))).zi)), (broadcast S8x1024 v2)⟩ : Prog (TpuEff nD τ sig (Elt F) Λ₀ .tc) (Σ' (v436 : FVec F S8x1024 .f32) (v437 : FVec F S8x1024 .f32) (v446 : FVec F S8x1024 .f32) (v447 : IVec S8x1024 1) (v450 : FVec F S8x1024 .f32), FVec F S8x1024 .f32)) := rfl

/-- Part 10, entered after 20 steps, leaves the values the state after 22 steps determines. -/
theorem part10_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part10 (F := F) arg0 harg0 arg1 harg1 arg2 harg2 arg3 harg3 arg4 harg4 v2 v3 s.zr s.zi s.et s.esc (subf (mulf s.zr s.zr) (mulf s.zi s.zi)) (broadcast S8x1024 v2)
      = (pure ⟨(step v2 v3 (Scalar.ofBits .f32 0x3EA80000#32) (step v2 v3 (Scalar.ofBits .f32 0x3EA00000#32) s)).zi, (step v2 v3 (Scalar.ofBits .f32 0x3EA80000#32) (step v2 v3 (Scalar.ofBits .f32 0x3EA00000#32) s)).et, (step v2 v3 (Scalar.ofBits .f32 0x3EA80000#32) (step v2 v3 (Scalar.ofBits .f32 0x3EA00000#32) s)).esc, (nzi v3 (step v2 v3 (Scalar.ofBits .f32 0x3EA80000#32) (step v2 v3 (Scalar.ofBits .f32 0x3EA00000#32) s))), (zr1 v2 (step v2 v3 (Scalar.ofBits .f32 0x3EA80000#32) (step v2 v3 (Scalar.ofBits .f32 0x3EA00000#32) s)))⟩ : Prog (TpuEff nD τ sig (Elt F) Λ₀ .tc) (Σ' (v481 : FVec F S8x1024 .f32) (v490 : FVec F S8x1024 .f32) (v491 : IVec S8x1024 1) (v501 : FVec F S8x1024 .f32), FVec F S8x1024 .f32)) := rfl

/-- Part 11, entered after 22 steps, leaves the values the state after 24 steps determines. -/
theorem part11_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part11 (F := F) arg0 harg0 arg1 harg1 arg2 harg2 arg3 harg3 arg4 harg4 v2 v3 s.zi s.et s.esc (nzi v3 s) (zr1 v2 s)
      = (pure ⟨(step v2 v3 (Scalar.ofBits .f32 0x3EB80000#32) (step v2 v3 (Scalar.ofBits .f32 0x3EB00000#32) s)).et, (step v2 v3 (Scalar.ofBits .f32 0x3EB80000#32) (step v2 v3 (Scalar.ofBits .f32 0x3EB00000#32) s)).esc, (zr1 v2 (step v2 v3 (Scalar.ofBits .f32 0x3EB80000#32) (step v2 v3 (Scalar.ofBits .f32 0x3EB00000#32) s))), (zi1 v3 (step v2 v3 (Scalar.ofBits .f32 0x3EB80000#32) (step v2 v3 (Scalar.ofBits .f32 0x3EB00000#32) s))), (mag v2 v3 (step v2 v3 (Scalar.ofBits .f32 0x3EB80000#32) (step v2 v3 (Scalar.ofBits .f32 0x3EB00000#32) s))), (xori (step v2 v3 (Scalar.ofBits .f32 0x3EB80000#32) (step v2 v3 (Scalar.ofBits .f32 0x3EB00000#32) s)).esc (constantI S8x1024 1 1#1)), (broadcast S8x1024 (Scalar.ofBits .f32 0x40800000#32))⟩ : Prog (TpuEff nD τ sig (Elt F) Λ₀ .tc) (Σ' (v534 : FVec F S8x1024 .f32) (v535 : IVec S8x1024 1) (v546 : FVec F S8x1024 .f32) (v547 : FVec F S8x1024 .f32) (v550 : FVec F S8x1024 .f32) (v551 : IVec S8x1024 1), FVec F S8x1024 .f32)) := rfl

/-- Part 12, entered after 24 steps, leaves the values the state after 27 steps determines. -/
theorem part12_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part12 (F := F) arg0 harg0 arg1 harg1 arg2 harg2 arg3 harg3 arg4 harg4 v2 v3 s.et s.esc (zr1 v2 s) (zi1 v3 s) (mag v2 v3 s) (xori s.esc (constantI S8x1024 1 1#1)) (broadcast S8x1024 (Scalar.ofBits .f32 0x40800000#32))
      = (pure ⟨(step v2 v3 (Scalar.ofBits .f32 0x3ED00000#32) (step v2 v3 (Scalar.ofBits .f32 0x3EC80000#32) (step v2 v3 (Scalar.ofBits .f32 0x3EC00000#32) s))).zr, (step v2 v3 (Scalar.ofBits .f32 0x3ED00000#32) (step v2 v3 (Scalar.ofBits .f32 0x3EC80000#32) (step v2 v3 (Scalar.ofBits .f32 0x3EC00000#32) s))).zi, (step v2 v3 (Scalar.ofBits .f32 0x3ED00000#32) (step v2 v3 (Scalar.ofBits .f32 0x3EC80000#32) (step v2 v3 (Scalar.ofBits .f32 0x3EC00000#32) s))).et, (step v2 v3 (Scalar.ofBits .f32 0x3ED00000#32) (step v2 v3 (Scalar.ofBits .f32 0x3EC80000#32) (step v2 v3 (Scalar.ofBits .f32 0x3EC00000#32) s))).esc, (mulf (step v2 v3 (Scalar.ofBits .f32 0x3ED00000#32) (step v2 v3 (Scalar.ofBits .f32 0x3EC80000#32) (step v2 v3 (Scalar.ofBits .f32 0x3EC00000#32) s))).zr (step v2 v3 (Scalar.ofBits .f32 0x3ED00000#32) (step v2 v3 (Scalar.ofBits .f32 0x3EC80000#32) (step v2 v3 (Scalar.ofBits .f32 0x3EC00000#32) s))).zr), (mulf (step v2 v3 (Scalar.ofBits .f32 0x3ED00000#32) (step v2 v3 (Scalar.ofBits .f32 0x3EC80000#32) (step v2 v3 (Scalar.ofBits .f32 0x3EC00000#32) s))).zi (step v2 v3 (Scalar.ofBits .f32 0x3ED00000#32) (step v2 v3 (Scalar.ofBits .f32 0x3EC80000#32) (step v2 v3 (Scalar.ofBits .f32 0x3EC00000#32) s))).zi)⟩ : Prog (TpuEff nD τ sig (Elt F) Λ₀ .tc) (Σ' (v590 : FVec F S8x1024 .f32) (v591 : FVec F S8x1024 .f32) (v600 : FVec F S8x1024 .f32) (v601 : IVec S8x1024 1) (v602 : FVec F S8x1024 .f32), FVec F S8x1024 .f32)) := rfl

/-- Part 13, entered after 27 steps, leaves the values the state after 29 steps determines. -/
theorem part13_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part13 (F := F) arg0 harg0 arg1 harg1 arg2 harg2 arg3 harg3 arg4 harg4 v2 v3 s.zr s.zi s.et s.esc (mulf s.zr s.zr) (mulf s.zi s.zi)
      = (pure ⟨(step v2 v3 (Scalar.ofBits .f32 0x3EE00000#32) (step v2 v3 (Scalar.ofBits .f32 0x3ED80000#32) s)).zr, (step v2 v3 (Scalar.ofBits .f32 0x3EE00000#32) (step v2 v3 (Scalar.ofBits .f32 0x3ED80000#32) s)).zi, (step v2 v3 (Scalar.ofBits .f32 0x3EE00000#32) (step v2 v3 (Scalar.ofBits .f32 0x3ED80000#32) s)).et, (step v2 v3 (Scalar.ofBits .f32 0x3EE00000#32) (step v2 v3 (Scalar.ofBits .f32 0x3ED80000#32) s)).esc, (nzr v2 (step v2 v3 (Scalar.ofBits .f32 0x3EE00000#32) (step v2 v3 (Scalar.ofBits .f32 0x3ED80000#32) s))), (mulf (mulf (broadcast S8x1024 (Scalar.ofBits .f32 0x40000000#32)) (step v2 v3 (Scalar.ofBits .f32 0x3EE00000#32) (step v2 v3 (Scalar.ofBits .f32 0x3ED80000#32) s)).zr) (step v2 v3 (Scalar.ofBits .f32 0x3EE00000#32) (step v2 v3 (Scalar.ofBits .f32 0x3ED80000#32) s)).zi), (broadcast S8x1024 v3)⟩ : Prog (TpuEff nD τ sig (Elt F) Λ₀ .tc) (Σ' (v634 : FVec F S8x1024 .f32) (v635 : FVec F S8x1024 .f32) (v644 : FVec F S8x1024 .f32) (v645 : IVec S8x1024 1) (v650 : FVec F S8x1024 .f32) (v653 : FVec F S8x1024 .f32), FVec F S8x1024 .f32)) := rfl

/-- Part 14, entered after 29 steps, leaves the values the state after 31 steps determines. -/
theorem part14_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part14 (F := F) arg0 harg0 arg1 harg1 arg2 harg2 arg3 harg3 arg4 harg4 v2 v3 s.zr s.zi s.et s.esc (nzr v2 s) (mulf (mulf (broadcast S8x1024 (Scalar.ofBits .f32 0x40000000#32)) s.zr) s.zi) (broadcast S8x1024 v3)
      = (pure ⟨(step v2 v3 (Scalar.ofBits .f32 0x3EF00000#32) (step v2 v3 (Scalar.ofBits .f32 0x3EE80000#32) s)).et, (step v2 v3 (Scalar.ofBits .f32 0x3EF00000#32) (step v2 v3 (Scalar.ofBits .f32 0x3EE80000#32) s)).esc, (zr1 v2 (step v2 v3 (Scalar.ofBits .f32 0x3EF00000#32) (step v2 v3 (Scalar.ofBits .f32 0x3EE80000#32) s))), (zi1 v3 (step v2 v3 (Scalar.ofBits .f32 0x3EF00000#32) (step v2 v3 (Scalar.ofBits .f32 0x3EE80000#32) s))), (mag v2 v3 (step v2 v3 (Scalar.ofBits .f32 0x3EF00000#32) (step v2 v3 (Scalar.ofBits .f32 0x3EE80000#32) s))), (xori (step v2 v3 (Scalar.ofBits .f32 0x3EF00000#32) (step v2 v3 (Scalar.ofBits .f32 0x3EE80000#32) s)).esc (constantI S8x1024 1 1#1))⟩ : Prog (TpuEff nD τ sig (Elt F) Λ₀ .tc) (Σ' (v688 : FVec F S8x1024 .f32) (v689 : IVec S8x1024 1) (v700 : FVec F S8x1024 .f32) (v701 : FVec F S8x1024 .f32) (v704 : FVec F S8x1024 .f32), IVec S8x1024 1)) := rfl

/-- Part 15, entered after 31 steps, leaves the values the state after 34 steps determines. -/
theorem part15_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part15 (F := F) arg0 harg0 arg1 harg1 arg2 harg2 arg3 harg3 arg4 harg4 v2 v3 s.et s.esc (zr1 v2 s) (zi1 v3 s) (mag v2 v3 s) (xori s.esc (constantI S8x1024 1 1#1))
      = (pure ⟨(step v2 v3 (Scalar.ofBits .f32 0x3F040000#32) (step v2 v3 (Scalar.ofBits .f32 0x3F000000#32) (step v2 v3 (Scalar.ofBits .f32 0x3EF80000#32) s))).zr, (step v2 v3 (Scalar.ofBits .f32 0x3F040000#32) (step v2 v3 (Scalar.ofBits .f32 0x3F000000#32) (step v2 v3 (Scalar.ofBits .f32 0x3EF80000#32) s))).zi, (step v2 v3 (Scalar.ofBits .f32 0x3F040000#32) (step v2 v3 (Scalar.ofBits .f32 0x3F000000#32) (step v2 v3 (Scalar.ofBits .f32 0x3EF80000#32) s))).et, (step v2 v3 (Scalar.ofBits .f32 0x3F040000#32) (step v2 v3 (Scalar.ofBits .f32 0x3F000000#32) (step v2 v3 (Scalar.ofBits .f32 0x3EF80000#32) s))).esc⟩ : Prog (TpuEff nD τ sig (Elt F) Λ₀ .tc) (Σ' (v744 : FVec F S8x1024 .f32) (v745 : FVec F S8x1024 .f32) (v754 : FVec F S8x1024 .f32), IVec S8x1024 1)) := rfl

/-- Part 16, entered after 34 steps, leaves the values the state after 36 steps determines. -/
theorem part16_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part16 (F := F) arg0 harg0 arg1 harg1 arg2 harg2 arg3 harg3 arg4 harg4 v2 v3 s.zr s.zi s.et s.esc
      = (pure ⟨(step v2 v3 (Scalar.ofBits .f32 0x3F0C0000#32) (step v2 v3 (Scalar.ofBits .f32 0x3F080000#32) s)).zr, (step v2 v3 (Scalar.ofBits .f32 0x3F0C0000#32) (step v2 v3 (Scalar.ofBits .f32 0x3F080000#32) s)).zi, (step v2 v3 (Scalar.ofBits .f32 0x3F0C0000#32) (step v2 v3 (Scalar.ofBits .f32 0x3F080000#32) s)).et, (step v2 v3 (Scalar.ofBits .f32 0x3F0C0000#32) (step v2 v3 (Scalar.ofBits .f32 0x3F080000#32) s)).esc, (nzr v2 (step v2 v3 (Scalar.ofBits .f32 0x3F0C0000#32) (step v2 v3 (Scalar.ofBits .f32 0x3F080000#32) s))), (mulf (broadcast S8x1024 (Scalar.ofBits .f32 0x40000000#32)) (step v2 v3 (Scalar.ofBits .f32 0x3F0C0000#32) (step v2 v3 (Scalar.ofBits .f32 0x3F080000#32) s)).zr)⟩ : Prog (TpuEff nD τ sig (Elt F) Λ₀ .tc) (Σ' (v788 : FVec F S8x1024 .f32) (v789 : FVec F S8x1024 .f32) (v798 : FVec F S8x1024 .f32) (v799 : IVec S8x1024 1) (v804 : FVec F S8x1024 .f32), FVec F S8x1024 .f32)) := rfl

/-- Part 17, entered after 36 steps, leaves the values the state after 38 steps determines. -/
theorem part17_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part17 (F := F) arg0 harg0 arg1 harg1 arg2 harg2 arg3 harg3 arg4 harg4 v2 v3 s.zr s.zi s.et s.esc (nzr v2 s) (mulf (broadcast S8x1024 (Scalar.ofBits .f32 0x40000000#32)) s.zr)
      = (pure ⟨(step v2 v3 (Scalar.ofBits .f32 0x3F140000#32) (step v2 v3 (Scalar.ofBits .f32 0x3F100000#32) s)).et, (step v2 v3 (Scalar.ofBits .f32 0x3F140000#32) (step v2 v3 (Scalar.ofBits .f32 0x3F100000#32) s)).esc, (zr1 v2 (step v2 v3 (Scalar.ofBits .f32 0x3F140000#32) (step v2 v3 (Scalar.ofBits .f32 0x3F100000#32) s))), (zi1 v3 (step v2 v3 (Scalar.ofBits .f32 0x3F140000#32) (step v2 v3 (Scalar.ofBits .f32 0x3F100000#32) s))), (mag v2 v3 (step v2 v3 (Scalar.ofBits .f32 0x3F140000#32) (step v2 v3 (Scalar.ofBits .f32 0x3F100000#32) s)))⟩ : Prog (TpuEff nD τ sig (Elt F) Λ₀ .tc) (Σ' (v842 : FVec F S8x1024 .f32) (v843 : IVec S8x1024 1) (v854 : FVec F S8x1024 .f32) (v855 : FVec F S8x1024 .f32), FVec F S8x1024 .f32)) := rfl

/-- Part 18, entered after 38 steps, leaves the values the state after 40 steps determines. -/
theorem part18_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part18 (F := F) arg0 harg0 arg1 harg1 arg2 harg2 arg3 harg3 arg4 harg4 v2 v3 s.et s.esc (zr1 v2 s) (zi1 v3 s) (mag v2 v3 s)
      = (pure ⟨(step v2 v3 (Scalar.ofBits .f32 0x3F1C0000#32) (step v2 v3 (Scalar.ofBits .f32 0x3F180000#32) s)).et, (step v2 v3 (Scalar.ofBits .f32 0x3F1C0000#32) (step v2 v3 (Scalar.ofBits .f32 0x3F180000#32) s)).esc, (zr1 v2 (step v2 v3 (Scalar.ofBits .f32 0x3F1C0000#32) (step v2 v3 (Scalar.ofBits .f32 0x3F180000#32) s))), (zi1 v3 (step v2 v3 (Scalar.ofBits .f32 0x3F1C0000#32) (step v2 v3 (Scalar.ofBits .f32 0x3F180000#32) s))), (newly v2 v3 (step v2 v3 (Scalar.ofBits .f32 0x3F1C0000#32) (step v2 v3 (Scalar.ofBits .f32 0x3F180000#32) s))), (broadcast S8x1024 (Scalar.ofBits .f32 0x3F200000#32))⟩ : Prog (TpuEff nD τ sig (Elt F) Λ₀ .tc) (Σ' (v886 : FVec F S8x1024 .f32) (v887 : IVec S8x1024 1) (v898 : FVec F S8x1024 .f32) (v899 : FVec F S8x1024 .f32) (v906 : IVec S8x1024 1), FVec F S8x1024 .f32)) := rfl

/-- Part 19, entered after 40 steps, leaves the values the state after 43 steps determines. -/
theorem part19_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part19 (F := F) arg0 harg0 arg1 harg1 arg2 harg2 arg3 harg3 arg4 harg4 v2 v3 s.et s.esc (zr1 v2 s) (zi1 v3 s) (newly v2 v3 s) (broadcast S8x1024 (Scalar.ofBits .f32 0x3F200000#32))
      = (pure ⟨(step v2 v3 (Scalar.ofBits .f32 0x3F280000#32) (step v2 v3 (Scalar.ofBits .f32 0x3F240000#32) (step v2 v3 (Scalar.ofBits .f32 0x3F200000#32) s))).zr, (step v2 v3 (Scalar.ofBits .f32 0x3F280000#32) (step v2 v3 (Scalar.ofBits .f32 0x3F240000#32) (step v2 v3 (Scalar.ofBits .f32 0x3F200000#32) s))).zi, (step v2 v3 (Scalar.ofBits .f32 0x3F280000#32) (step v2 v3 (Scalar.ofBits .f32 0x3F240000#32) (step v2 v3 (Scalar.ofBits .f32 0x3F200000#32) s))).et, (step v2 v3 (Scalar.ofBits .f32 0x3F280000#32) (step v2 v3 (Scalar.ofBits .f32 0x3F240000#32) (step v2 v3 (Scalar.ofBits .f32 0x3F200000#32) s))).esc, (nzr v2 (step v2 v3 (Scalar.ofBits .f32 0x3F280000#32) (step v2 v3 (Scalar.ofBits .f32 0x3F240000#32) (step v2 v3 (Scalar.ofBits .f32 0x3F200000#32) s)))), (Scalar.ofBits .f32 0x40000000#32 : F .f32)⟩ : Prog (TpuEff nD τ sig (Elt F) Λ₀ .tc) (Σ' (v942 : FVec F S8x1024 .f32) (v943 : FVec F S8x1024 .f32) (v952 : FVec F S8x1024 .f32) (v953 : IVec S8x1024 1) (v958 : FVec F S8x1024 .f32), F .f32)) := rfl

/-- Part 20, entered after 43 steps, leaves the values the state after 45 steps determines. -/
theorem part20_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part20 (F := F) arg0 harg0 arg1 harg1 arg2 harg2 arg3 harg3 arg4 harg4 v2 v3 s.zr s.zi s.et s.esc (nzr v2 s) (Scalar.ofBits .f32 0x40000000#32 : F .f32)
      = (pure ⟨(step v2 v3 (Scalar.ofBits .f32 0x3F300000#32) (step v2 v3 (Scalar.ofBits .f32 0x3F2C0000#32) s)).et, (step v2 v3 (Scalar.ofBits .f32 0x3F300000#32) (step v2 v3 (Scalar.ofBits .f32 0x3F2C0000#32) s)).esc, (zr1 v2 (step v2 v3 (Scalar.ofBits .f32 0x3F300000#32) (step v2 v3 (Scalar.ofBits .f32 0x3F2C0000#32) s))), (zi1 v3 (step v2 v3 (Scalar.ofBits .f32 0x3F300000#32) (step v2 v3 (Scalar.ofBits .f32 0x3F2C0000#32) s))), (mulf (zr1 v2 (step v2 v3 (Scalar.ofBits .f32 0x3F300000#32) (step v2 v3 (Scalar.ofBits .f32 0x3F2C0000#32) s))) (zr1 v2 (step v2 v3 (Scalar.ofBits .f32 0x3F300000#32) (step v2 v3 (Scalar.ofBits .f32 0x3F2C0000#32) s))))⟩ : Prog (TpuEff nD τ sig (Elt F) Λ₀ .tc) (Σ' (v996 : FVec F S8x1024 .f32) (v997 : IVec S8x1024 1) (v1008 : FVec F S8x1024 .f32) (v1009 : FVec F S8x1024 .f32), FVec F S8x1024 .f32)) := rfl

/-- Part 21, entered after 45 steps, leaves the values the state after 47 steps determines. -/
theorem part21_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part21 (F := F) arg0 harg0 arg1 harg1 arg2 harg2 arg3 harg3 arg4 harg4 v2 v3 s.et s.esc (zr1 v2 s) (zi1 v3 s) (mulf (zr1 v2 s) (zr1 v2 s))
      = (pure ⟨(step v2 v3 (Scalar.ofBits .f32 0x3F380000#32) (step v2 v3 (Scalar.ofBits .f32 0x3F340000#32) s)).et, (step v2 v3 (Scalar.ofBits .f32 0x3F380000#32) (step v2 v3 (Scalar.ofBits .f32 0x3F340000#32) s)).esc, (zr1 v2 (step v2 v3 (Scalar.ofBits .f32 0x3F380000#32) (step v2 v3 (Scalar.ofBits .f32 0x3F340000#32) s))), (zi1 v3 (step v2 v3 (Scalar.ofBits .f32 0x3F380000#32) (step v2 v3 (Scalar.ofBits .f32 0x3F340000#32) s))), (newly v2 v3 (step v2 v3 (Scalar.ofBits .f32 0x3F380000#32) (step v2 v3 (Scalar.ofBits .f32 0x3F340000#32) s)))⟩ : Prog (TpuEff nD τ sig (Elt F) Λ₀ .tc) (Σ' (v1040 : FVec F S8x1024 .f32) (v1041 : IVec S8x1024 1) (v1052 : FVec F S8x1024 .f32) (v1053 : FVec F S8x1024 .f32), IVec S8x1024 1)) := rfl

/-- Part 22, entered after 47 steps, leaves the values the state after 50 steps determines. -/
theorem part22_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part22 (F := F) arg0 harg0 arg1 harg1 arg2 harg2 arg3 harg3 arg4 harg4 v2 v3 s.et s.esc (zr1 v2 s) (zi1 v3 s) (newly v2 v3 s)
      = (pure ⟨(step v2 v3 (Scalar.ofBits .f32 0x3F440000#32) (step v2 v3 (Scalar.ofBits .f32 0x3F400000#32) (step v2 v3 (Scalar.ofBits .f32 0x3F3C0000#32) s))).zr, (step v2 v3 (Scalar.ofBits .f32 0x3F440000#32) (step v2 v3 (Scalar.ofBits .f32 0x3F400000#32) (step v2 v3 (Scalar.ofBits .f32 0x3F3C0000#32) s))).zi, (step v2 v3 (Scalar.ofBits .f32 0x3F440000#32) (step v2 v3 (Scalar.ofBits .f32 0x3F400000#32) (step v2 v3 (Scalar.ofBits .f32 0x3F3C0000#32) s))).et, (step v2 v3 (Scalar.ofBits .f32 0x3F440000#32) (step v2 v3 (Scalar.ofBits .f32 0x3F400000#32) (step v2 v3 (Scalar.ofBits .f32 0x3F3C0000#32) s))).esc, (subf (mulf (step v2 v3 (Scalar.ofBits .f32 0x3F440000#32) (step v2 v3 (Scalar.ofBits .f32 0x3F400000#32) (step v2 v3 (Scalar.ofBits .f32 0x3F3C0000#32) s))).zr (step v2 v3 (Scalar.ofBits .f32 0x3F440000#32) (step v2 v3 (Scalar.ofBits .f32 0x3F400000#32) (step v2 v3 (Scalar.ofBits .f32 0x3F3C0000#32) s))).zr) (mulf (step v2 v3 (Scalar.ofBits .f32 0x3F440000#32) (step v2 v3 (Scalar.ofBits .f32 0x3F400000#32) (step v2 v3 (Scalar.ofBits .f32 0x3F3C0000#32) s))).zi (step v2 v3 (Scalar.ofBits .f32 0x3F440000#32) (step v2 v3 (Scalar.ofBits .f32 0x3F400000#32) (step v2 v3 (Scalar.ofBits .f32 0x3F3C0000#32) s))).zi)), (broadcast S8x1024 v2)⟩ : Prog (TpuEff nD τ sig (Elt F) Λ₀ .tc) (Σ' (v1096 : FVec F S8x1024 .f32) (v1097 : FVec F S8x1024 .f32) (v1106 : FVec F S8x1024 .f32) (v1107 : IVec S8x1024 1) (v1110 : FVec F S8x1024 .f32), FVec F S8x1024 .f32)) := rfl

/-- Part 23, entered after 50 steps, leaves the values the state after 52 steps determines. -/
theorem part23_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part23 (F := F) arg0 harg0 arg1 harg1 arg2 harg2 arg3 harg3 arg4 harg4 v2 v3 s.zr s.zi s.et s.esc (subf (mulf s.zr s.zr) (mulf s.zi s.zi)) (broadcast S8x1024 v2)
      = (pure ⟨(step v2 v3 (Scalar.ofBits .f32 0x3F4C0000#32) (step v2 v3 (Scalar.ofBits .f32 0x3F480000#32) s)).zi, (step v2 v3 (Scalar.ofBits .f32 0x3F4C0000#32) (step v2 v3 (Scalar.ofBits .f32 0x3F480000#32) s)).et, (step v2 v3 (Scalar.ofBits .f32 0x3F4C0000#32) (step v2 v3 (Scalar.ofBits .f32 0x3F480000#32) s)).esc, (nzi v3 (step v2 v3 (Scalar.ofBits .f32 0x3F4C0000#32) (step v2 v3 (Scalar.ofBits .f32 0x3F480000#32) s))), (zr1 v2 (step v2 v3 (Scalar.ofBits .f32 0x3F4C0000#32) (step v2 v3 (Scalar.ofBits .f32 0x3F480000#32) s)))⟩ : Prog (TpuEff nD τ sig (Elt F) Λ₀ .tc) (Σ' (v1141 : FVec F S8x1024 .f32) (v1150 : FVec F S8x1024 .f32) (v1151 : IVec S8x1024 1) (v1161 : FVec F S8x1024 .f32), FVec F S8x1024 .f32)) := rfl

/-- Part 24, entered after 52 steps, leaves the values the state after 54 steps determines. -/
theorem part24_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part24 (F := F) arg0 harg0 arg1 harg1 arg2 harg2 arg3 harg3 arg4 harg4 v2 v3 s.zi s.et s.esc (nzi v3 s) (zr1 v2 s)
      = (pure ⟨(step v2 v3 (Scalar.ofBits .f32 0x3F540000#32) (step v2 v3 (Scalar.ofBits .f32 0x3F500000#32) s)).et, (step v2 v3 (Scalar.ofBits .f32 0x3F540000#32) (step v2 v3 (Scalar.ofBits .f32 0x3F500000#32) s)).esc, (zr1 v2 (step v2 v3 (Scalar.ofBits .f32 0x3F540000#32) (step v2 v3 (Scalar.ofBits .f32 0x3F500000#32) s))), (zi1 v3 (step v2 v3 (Scalar.ofBits .f32 0x3F540000#32) (step v2 v3 (Scalar.ofBits .f32 0x3F500000#32) s))), (mag v2 v3 (step v2 v3 (Scalar.ofBits .f32 0x3F540000#32) (step v2 v3 (Scalar.ofBits .f32 0x3F500000#32) s))), (xori (step v2 v3 (Scalar.ofBits .f32 0x3F540000#32) (step v2 v3 (Scalar.ofBits .f32 0x3F500000#32) s)).esc (constantI S8x1024 1 1#1)), (broadcast S8x1024 (Scalar.ofBits .f32 0x40800000#32))⟩ : Prog (TpuEff nD τ sig (Elt F) Λ₀ .tc) (Σ' (v1194 : FVec F S8x1024 .f32) (v1195 : IVec S8x1024 1) (v1206 : FVec F S8x1024 .f32) (v1207 : FVec F S8x1024 .f32) (v1210 : FVec F S8x1024 .f32) (v1211 : IVec S8x1024 1), FVec F S8x1024 .f32)) := rfl

/-- Part 25, entered after 54 steps, leaves the values the state after 57 steps determines. -/
theorem part25_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part25 (F := F) arg0 harg0 arg1 harg1 arg2 harg2 arg3 harg3 arg4 harg4 v2 v3 s.et s.esc (zr1 v2 s) (zi1 v3 s) (mag v2 v3 s) (xori s.esc (constantI S8x1024 1 1#1)) (broadcast S8x1024 (Scalar.ofBits .f32 0x40800000#32))
      = (pure ⟨(step v2 v3 (Scalar.ofBits .f32 0x3F600000#32) (step v2 v3 (Scalar.ofBits .f32 0x3F5C0000#32) (step v2 v3 (Scalar.ofBits .f32 0x3F580000#32) s))).zr, (step v2 v3 (Scalar.ofBits .f32 0x3F600000#32) (step v2 v3 (Scalar.ofBits .f32 0x3F5C0000#32) (step v2 v3 (Scalar.ofBits .f32 0x3F580000#32) s))).zi, (step v2 v3 (Scalar.ofBits .f32 0x3F600000#32) (step v2 v3 (Scalar.ofBits .f32 0x3F5C0000#32) (step v2 v3 (Scalar.ofBits .f32 0x3F580000#32) s))).et, (step v2 v3 (Scalar.ofBits .f32 0x3F600000#32) (step v2 v3 (Scalar.ofBits .f32 0x3F5C0000#32) (step v2 v3 (Scalar.ofBits .f32 0x3F580000#32) s))).esc, (mulf (step v2 v3 (Scalar.ofBits .f32 0x3F600000#32) (step v2 v3 (Scalar.ofBits .f32 0x3F5C0000#32) (step v2 v3 (Scalar.ofBits .f32 0x3F580000#32) s))).zr (step v2 v3 (Scalar.ofBits .f32 0x3F600000#32) (step v2 v3 (Scalar.ofBits .f32 0x3F5C0000#32) (step v2 v3 (Scalar.ofBits .f32 0x3F580000#32) s))).zr), (mulf (step v2 v3 (Scalar.ofBits .f32 0x3F600000#32) (step v2 v3 (Scalar.ofBits .f32 0x3F5C0000#32) (step v2 v3 (Scalar.ofBits .f32 0x3F580000#32) s))).zi (step v2 v3 (Scalar.ofBits .f32 0x3F600000#32) (step v2 v3 (Scalar.ofBits .f32 0x3F5C0000#32) (step v2 v3 (Scalar.ofBits .f32 0x3F580000#32) s))).zi)⟩ : Prog (TpuEff nD τ sig (Elt F) Λ₀ .tc) (Σ' (v1250 : FVec F S8x1024 .f32) (v1251 : FVec F S8x1024 .f32) (v1260 : FVec F S8x1024 .f32) (v1261 : IVec S8x1024 1) (v1262 : FVec F S8x1024 .f32), FVec F S8x1024 .f32)) := rfl

/-- Part 26, entered after 57 steps, leaves the values the state after 59 steps determines. -/
theorem part26_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part26 (F := F) arg0 harg0 arg1 harg1 arg2 harg2 arg3 harg3 arg4 harg4 v2 v3 s.zr s.zi s.et s.esc (mulf s.zr s.zr) (mulf s.zi s.zi)
      = (pure ⟨(step v2 v3 (Scalar.ofBits .f32 0x3F680000#32) (step v2 v3 (Scalar.ofBits .f32 0x3F640000#32) s)).zr, (step v2 v3 (Scalar.ofBits .f32 0x3F680000#32) (step v2 v3 (Scalar.ofBits .f32 0x3F640000#32) s)).zi, (step v2 v3 (Scalar.ofBits .f32 0x3F680000#32) (step v2 v3 (Scalar.ofBits .f32 0x3F640000#32) s)).et, (step v2 v3 (Scalar.ofBits .f32 0x3F680000#32) (step v2 v3 (Scalar.ofBits .f32 0x3F640000#32) s)).esc, (nzr v2 (step v2 v3 (Scalar.ofBits .f32 0x3F680000#32) (step v2 v3 (Scalar.ofBits .f32 0x3F640000#32) s))), (mulf (mulf (broadcast S8x1024 (Scalar.ofBits .f32 0x40000000#32)) (step v2 v3 (Scalar.ofBits .f32 0x3F680000#32) (step v2 v3 (Scalar.ofBits .f32 0x3F640000#32) s)).zr) (step v2 v3 (Scalar.ofBits .f32 0x3F680000#32) (step v2 v3 (Scalar.ofBits .f32 0x3F640000#32) s)).zi), (broadcast S8x1024 v3)⟩ : Prog (TpuEff nD τ sig (Elt F) Λ₀ .tc) (Σ' (v1294 : FVec F S8x1024 .f32) (v1295 : FVec F S8x1024 .f32) (v1304 : FVec F S8x1024 .f32) (v1305 : IVec S8x1024 1) (v1310 : FVec F S8x1024 .f32) (v1313 : FVec F S8x1024 .f32), FVec F S8x1024 .f32)) := rfl

/-- Part 27, entered after 59 steps, leaves the values the state after 61 steps determines. -/
theorem part27_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 : F .f32) (s : St F) :
    k0_part27 (F := F) arg0 harg0 arg1 harg1 arg2 harg2 arg3 harg3 arg4 harg4 v2 v3 s.zr s.zi s.et s.esc (nzr v2 s) (mulf (mulf (broadcast S8x1024 (Scalar.ofBits .f32 0x40000000#32)) s.zr) s.zi) (broadcast S8x1024 v3)
      = (pure ⟨(step v2 v3 (Scalar.ofBits .f32 0x3F700000#32) (step v2 v3 (Scalar.ofBits .f32 0x3F6C0000#32) s)).et, (step v2 v3 (Scalar.ofBits .f32 0x3F700000#32) (step v2 v3 (Scalar.ofBits .f32 0x3F6C0000#32) s)).esc, (zr1 v2 (step v2 v3 (Scalar.ofBits .f32 0x3F700000#32) (step v2 v3 (Scalar.ofBits .f32 0x3F6C0000#32) s))), (zi1 v3 (step v2 v3 (Scalar.ofBits .f32 0x3F700000#32) (step v2 v3 (Scalar.ofBits .f32 0x3F6C0000#32) s))), (mag v2 v3 (step v2 v3 (Scalar.ofBits .f32 0x3F700000#32) (step v2 v3 (Scalar.ofBits .f32 0x3F6C0000#32) s))), (xori (step v2 v3 (Scalar.ofBits .f32 0x3F700000#32) (step v2 v3 (Scalar.ofBits .f32 0x3F6C0000#32) s)).esc (constantI S8x1024 1 1#1))⟩ : Prog (TpuEff nD τ sig (Elt F) Λ₀ .tc) (Σ' (v1348 : FVec F S8x1024 .f32) (v1349 : IVec S8x1024 1) (v1360 : FVec F S8x1024 .f32) (v1361 : FVec F S8x1024 .f32) (v1364 : FVec F S8x1024 .f32), IVec S8x1024 1)) := rfl

/-- Part 28, entered after 61 steps, leaves the values the state after 64 steps determines. -/
theorem part28_at (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (v2 v3 v4 : F .f32) (s : St F) :
    k0_part28 (F := F) arg0 harg0 arg1 harg1 arg2 harg2 arg3 harg3 arg4 harg4 v2 v3 v4 s.et s.esc (zr1 v2 s) (zi1 v3 s) (mag v2 v3 s) (xori s.esc (constantI S8x1024 1 1#1))
      = (pure ⟨(step v2 v3 (Scalar.ofBits .f32 0x3F7C0000#32) (step v2 v3 (Scalar.ofBits .f32 0x3F780000#32) (step v2 v3 (Scalar.ofBits .f32 0x3F740000#32) s))).et, broadcast S8x1024 v4⟩ : Prog (TpuEff nD τ sig (Elt F) Λ₀ .tc) (Σ' (v1414 : FVec F S8x1024 .f32), FVec F S8x1024 .f32)) := rfl

end Cert.KernelIdeal.Hand
-- ==== Proof.Region0.lean ====
/-
  The first kernel region: its body on whole staging buffers, its proof data and its obligation.

  The body reads the three scalars and the block of starting points and stores `weight` of them.
-/
module

public import proofs.«01_k».proof.Proof.Weight
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.Tactic.Stretches
public import Idealize.ShloMosaic.Lib.VecWindow
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one entry of a scalar's block. -/
abbrev i1 : S1.Idx := Shape.Idx.first (by decide)

/-- What region 0 leaves in its output's buffer, from the blocks of its inputs. -/
def out0 (x0 x1 x2 : Vec F S1 .f32) (x3 : Vec F S8x1024 .f32) : Vec F S8x1024 .f32 :=
  weight x3 (x0 i1) (x1 i1) (x2 i1)

/-- The last payload of the body, at the state after the last step, is `weight`. -/
theorem pay_weight (v0 : Vec F S8x1024 .f32) (v2 v3 v4 : F .f32) :
    k0_pay1 (run v2 v3 times (start v0)).et (broadcast S8x1024 v4) = weight v0 v2 v3 v4 := rfl

set_option maxHeartbeats 1000000 in
/-- The printed body is: four loads, then one store of `weight` of what they read. -/
theorem body0_eq (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole) :
    cc0__julia_weight_kernel (F := F) arg0 harg0 arg1 harg1 arg2 harg2 arg3 harg3 arg4 harg4 = (do
      let v0 : Vec F S8x1024 .f32 ← Prog.lift (.load arg3 (Rect.unit (s := S8x1024) ![0, 0] S8x1024.size inb_S8x1024_S8x1024_0_0).toLoadRect (View.loadsAt_vmem h_S8x1024))
      let v2 : Elt F .f32 ← smemLoad arg0 (Rect.unit (s := S1) ![0] S1.size inb_S1_S1_0) numel1_S1 rfl
      let v3 : Elt F .f32 ← smemLoad arg1 (Rect.unit (s := S1) ![0] S1.size inb_S1_S1_0) numel1_S1 rfl
      let v4 : Elt F .f32 ← smemLoad arg2 (Rect.unit (s := S1) ![0] S1.size inb_S1_S1_0) numel1_S1 rfl
      let _v : Vec F S8x1024 .f32 ← Prog.lift (.load arg4 (Rect.unit (s := S8x1024) ![0, 0] S8x1024.size inb_S8x1024_S8x1024_0_0).toLoadRect (View.loadsAt_vmem h_S8x1024))
      Prog.lift (.store arg4 (Rect.unit (s := S8x1024) ![0, 0] S8x1024.size inb_S8x1024_S8x1024_0_0) (weight v0 v2 v3 v4) Finset.univ (View.stores_vmem_bits_univ h_S8x1024 rfl) (.inl rfl))
      pure ⟨⟩) := by
  rw [cc0__julia_weight_kernel_eq_skeleton]; unfold cc0__julia_weight_kernel_skel
  rw [k0_part1_eq_skeleton]; unfold k0_part1_skel
  simp only [bind_assoc, pure_bind, part1_v28, part1_v29, part1_v40, part1_v41, part1_v44, part1_v45, part2_at, part3_at, part4_at, part5_at, part6_at, part7_at, part8_at, part9_at, part10_at, part11_at, part12_at, part13_at, part14_at, part15_at, part16_at, part17_at, part18_at, part19_at, part20_at, part21_at, part22_at, part23_at, part24_at, part25_at, part26_at, part27_at, part28_at]
  rfl

set_option maxHeartbeats 1000000 in
/-- The body on whole staging buffers, the inputs at given contents: it runs to the end, leaves the
    inputs as they were and the output's buffer at `out0` of them. -/
theorem body0 (c : Dev nD) (E : Set ℕ) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S8x1024 .f32) (harg3 : arg3.IsWhole) (arg4 : Memref sig .tc .vmem S8x1024 .f32) (harg4 : arg4.IsWhole)
    (x0 x1 x2 : Vec F S1 .f32) (x3 : Vec F S8x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0 x0 x1 x2 x3)) -∗ K ⟨⟩))
      ⊢ wp frame (wpE (defs₀ (F := F)) Variants.none c none) E (cc0__julia_weight_kernel arg0 harg0 arg1 harg1 arg2 harg2 arg3 harg3 arg4 harg4) K := by
  rw [body0_eq]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0; obtain rfl := harg1.eq_unread hf1; obtain rfl := harg2.eq_unread hf2; obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  refine (View.read_writes_full _ _ _ _ _).trans ?_
  rw [View.readAt_full, hf3]
  sl_open_run
  rw [View.readAt_full, View.readAt_full, View.readAt_full, hf0, hf1, hf2]
  rfl

section Region
-- the buffers' contents when the region is entered
variable (V : (c : Dev nD) → (b : Ref sig .tc) → Buf (Elt F) ((c : Thread nD τ).loc b))

/-- Window `w`'s block at point `t` of region 0, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: each input's buffer keeps its block, the output's holds `out0` of the
    blocks; the invariant is the buffers the body does not touch and the generator register. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => out0 (blk0 V c 0 t) (blk0 V c 1 t) (blk0 V c 2 t) (blk0 V c 3 t)
  Φ _ := Pipeline.ΦA spec0 c
  q _ := fullShare
  owed _ := 0

/-- The arrays of region 0's proof data are the entry contents. -/
theorem dat0_A (c : Dev nD) (w : Fin cfg0.W) : (dat0 V c).A w = V c (Pipeline.arrRef spec0 w) := by
  dsimp only [dat0]
/-- The body leaves input 0's block in place. -/
theorem dat0_after0 (c : Dev nD) (t : Fin cfg0.N) : (dat0 V c).after 0 t = blk0 V c 0 t := by dsimp only [dat0]
/-- The body leaves input 1's block in place. -/
theorem dat0_after1 (c : Dev nD) (t : Fin cfg0.N) : (dat0 V c).after 1 t = blk0 V c 1 t := by dsimp only [dat0]
/-- The body leaves input 2's block in place. -/
theorem dat0_after2 (c : Dev nD) (t : Fin cfg0.N) : (dat0 V c).after 2 t = blk0 V c 2 t := by dsimp only [dat0]
/-- The body leaves input 3's block in place. -/
theorem dat0_after3 (c : Dev nD) (t : Fin cfg0.N) : (dat0 V c).after 3 t = blk0 V c 3 t := by dsimp only [dat0]
/-- The body leaves `out0` of the inputs' blocks in the output's buffer. -/
theorem dat0_after4 (c : Dev nD) (t : Fin cfg0.N) :
    (dat0 V c).after 4 t = out0 (blk0 V c 0 t) (blk0 V c 1 t) (blk0 V c 2 t) (blk0 V c 3 t) := by dsimp only [dat0]

/-- Input 0's buffer holds its block when the body is entered. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]) t d).trans
    (by unfold Dat.fetched Dat.blockOf blk0; rw [dat0_A]; try rfl)
/-- Input 1's buffer holds its block when the body is entered. -/
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]) t d).trans
    (by unfold Dat.fetched Dat.blockOf blk0; rw [dat0_A]; try rfl)
/-- Input 2's buffer holds its block when the body is entered. -/
theorem dat0_before2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]) t d).trans
    (by unfold Dat.fetched Dat.blockOf blk0; rw [dat0_A]; try rfl)
/-- Input 3's buffer holds its block when the body is entered. -/
theorem dat0_before3 (c : Dev nD) (t : Fin cfg0.N) (d) : (dat0 V c).before 3 t d = blk0 V c 3 t :=
  ((dat0 V c).before_in_eq_fetched 3 rfl (fun _ => rfl) (fun _ _ _ => rfl)
    (fun t => by rw [dat0_after3]; unfold Dat.blockOf blk0; rw [dat0_A]) t d).trans
    (by unfold Dat.fetched Dat.blockOf blk0; rw [dat0_A]; try rfl)

/-- What region 0's body is entered with at a point, window by window. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What region 0's body leaves at a point, window by window. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- Region 0's body at a point takes `pre0` to `post0`. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4]
  iintro ⟨HΦ, Ho, ⟨%d0, H0⟩, ⟨%d1, H1⟩, ⟨%d2, H2⟩, ⟨%d3, H3⟩, ⟨%d4, H4⟩⟩
  iapply (body0 c Set.univ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body the pipeline calls at a point is the printed body at that point's buffers. -/
theorem row0 (t : Fin cfg0.N) :
    defs₀ (F := F) .tc cfg0.body (cfg0.bodyArgs t (cfg0.slots t)) = bodyAt0 t := by
  unfold defs₀; rw [Defs.onTc_tc]

/-- Region 0's body meets the obligation its proof data put on it, at every point. -/
theorem oblig0 (c : Dev nD) : BodyObligation (dat0 (F := F) V c) (defs₀ (F := F)) Variants.none () Set.univ := fun t => by
  rw [bigSep_W0, bigSep_W0, row0]
  exact triple_restated (point0 V c t) rfl .rfl fun _ => .rfl

end Region

end Cert.KernelIdeal.Hand
-- ==== Proof.Region1.lean ====
/-
  The second kernel region: its body on whole staging buffers, the two scratch buffers it carries from
  one grid point to the next, its proof data and its obligation.

  Every point folds one block of 512 keys into the carried pair (weighted sums, running maximum); the
  first of each sixteen points starts the pair afresh and the last divides the sums into the output's
  buffer.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.Tactic.Stretches
public import Idealize.ShloMosaic.Lib.VecWindow
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A pair of scratch contents: the weighted sums and the running maximum. -/
abbrev Pair (F : FTy → Type) : Type := Vec F S65x1024 .f32 × Vec F S1x1024 .f32

/-- The pair a fresh row block starts from. -/
def fresh : Pair F := (k1_pay4, k1_pay3)

/-- The pair after one block of keys, from the blocks of queries, keys, values and weights and the pair before. -/
def fold1 (x0 : Vec F S1x1024x64 .f32) (x1 : Vec F S1x512x64 .f32) (x2 : Vec F S1x65x512 .f32) (x3 : Vec F S1x512 .f32) (p : Pair F) : Pair F :=
  (k1_pay7 x0 x1 p.2 x2 x3 p.1, k1_pay1 (k1_pay6 x0 x1 p.2))

/-- The condition under which the body starts the pair afresh. -/
abbrev first1 (i : grid1.Coords) : Prop := (Scalar.cmpi .ne (Scalar.extui (Scalar.cmpi .eq (BitVec.ofNat 32 (i 2).val) 0#32)) 0#32) = 1#1
/-- The condition under which the body stores its output. -/
abbrev last1 (i : grid1.Coords) : Prop := k1_cond2 i = 1#1

/-- The pair starts afresh at the points divisible by 16. -/
theorem first1_iff : ∀ t : Fin cfg1.N, first1 (grid1.coords t) ↔ t.val % 16 = 0 :=
  (fun t => by
    have ht : t.val < 512 := Nat.lt_of_lt_of_eq t.isLt N_1
    have e2 : (grid1.coords t 2).val = t.val / 1 % 16 := Pipeline.Grid.coords_val t 2 (by decide) rfl
    simp only [first1, e2]
    word_cmp
   : ∀ t : Fin grid1.N, first1 (grid1.coords t) ↔ t.val % 16 = 0)

/-- The output is stored at the points that leave 15 modulo 16. -/
theorem last1_iff : ∀ t : Fin cfg1.N, last1 (grid1.coords t) ↔ t.val % 16 = 15 :=
  (fun t => by
    have ht : t.val < 512 := Nat.lt_of_lt_of_eq t.isLt N_1
    have e2 : (grid1.coords t 2).val = t.val / 1 % 16 := Pipeline.Grid.coords_val t 2 (by decide) rfl
    simp only [last1, k1_cond2, e2]
    word_cmp
   : ∀ t : Fin grid1.N, last1 (grid1.coords t) ↔ t.val % 16 = 15)

/-- The inputs are live at every point. -/
theorem live1_0 : ∀ t : Fin cfg1.N, cfg1.idle 0 (grid1.coords t) = false := fun _ => rfl
/-- The inputs are live at every point. -/
theorem live1_1 : ∀ t : Fin cfg1.N, cfg1.idle 1 (grid1.coords t) = false := fun _ => rfl
/-- The inputs are live at every point. -/
theorem live1_2 : ∀ t : Fin cfg1.N, cfg1.idle 2 (grid1.coords t) = false := fun _ => rfl
/-- The inputs are live at every point. -/
theorem live1_3 : ∀ t : Fin cfg1.N, cfg1.idle 3 (grid1.coords t) = false := fun _ => rfl
/-- The output is idle where it is not stored. -/
theorem idle1_4 : ∀ t : Fin cfg1.N, ¬last1 (grid1.coords t) → cfg1.idle 4 (grid1.coords t) = true := by decide +kernel
/-- The output's block is not written back where it is not stored. -/
theorem keep1_4 : ∀ t : Fin cfg1.N, ¬last1 (grid1.coords t) → (cfg1.win 4).flush t = false := by decide +kernel
/-- The output is live where it is stored. -/
theorem live1_4 : ∀ t : Fin cfg1.N, last1 (grid1.coords t) → cfg1.idle 4 (grid1.coords t) = false := by decide +kernel

set_option maxHeartbeats 1000000 in
/-- The body where the pair starts afresh and the output is not stored: the scratch buffers, at anything before, hold the pair folded from the fresh one; the output's buffer keeps its contents. -/
theorem body1A (c : Dev nD) (E : Set ℕ) (i : grid1.Coords) (arg3 : Memref sig .tc .vmem S1x1024x64 .f32) (harg3 : arg3.IsWhole) (arg4 : Memref sig .tc .vmem S1x512x64 .f32) (harg4 : arg4.IsWhole) (arg5 : Memref sig .tc .vmem S1x65x512 .f32) (harg5 : arg5.IsWhole) (arg6 : Memref sig .tc .vmem S1x512 .f32) (harg6 : arg6.IsWhole) (arg7 : Memref sig .tc .vmem S1x64x1024 .f32) (harg7 : arg7.IsWhole) (arg8 : Memref sig .tc .vmem S65x1024 .f32) (harg8 : arg8.IsWhole) (arg9 : Memref sig .tc .vmem S1x1024 .f32) (harg9 : arg9.IsWhole) (hc0 : first1 i) (hc1 : ¬last1 i)
    (x0 : Vec F S1x1024x64 .f32) (x1 : Vec F S1x512x64 .f32) (x2 : Vec F S1x65x512 .f32) (x3 : Vec F S1x512 .f32) (x4 : Vec F S1x64x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (fold1 x0 x1 x2 x3 fresh).1 ∗ owns (c : Thread nD τ) arg9 fullShare (fold1 x0 x1 x2 x3 fresh).2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    sl_open_run
    repeat (first | rw [View.readAt_writes_full] | rw [View.readCov_full] | rw [View.readAt_full])
    simp only [hf0, hf1, hf2, hf3, hf4]
    rfl
  iexists _; isplitr
  swap; · iexact H6
  ipureintro
  refine (View.read_writes_full _ _ _ _ _).trans ?_
  sl_open_run
  repeat (first | rw [View.readAt_writes_full] | rw [View.readCov_full] | rw [View.readAt_full])
  simp only [hf0, hf1, hf2, hf3, hf4]
  rfl

set_option maxHeartbeats 1000000 in
/-- The body where the pair is carried on and the output is not stored. -/
theorem body1B (c : Dev nD) (E : Set ℕ) (i : grid1.Coords) (arg3 : Memref sig .tc .vmem S1x1024x64 .f32) (harg3 : arg3.IsWhole) (arg4 : Memref sig .tc .vmem S1x512x64 .f32) (harg4 : arg4.IsWhole) (arg5 : Memref sig .tc .vmem S1x65x512 .f32) (harg5 : arg5.IsWhole) (arg6 : Memref sig .tc .vmem S1x512 .f32) (harg6 : arg6.IsWhole) (arg7 : Memref sig .tc .vmem S1x64x1024 .f32) (harg7 : arg7.IsWhole) (arg8 : Memref sig .tc .vmem S65x1024 .f32) (harg8 : arg8.IsWhole) (arg9 : Memref sig .tc .vmem S1x1024 .f32) (harg9 : arg9.IsWhole) (hc0 : ¬first1 i) (hc1 : ¬last1 i)
    (x0 : Vec F S1x1024x64 .f32) (x1 : Vec F S1x512x64 .f32) (x2 : Vec F S1x65x512 .f32) (x3 : Vec F S1x512 .f32) (x4 : Vec F S1x64x1024 .f32) (p : Pair F) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare p.1 ∗ owns (c : Thread nD τ) arg9 fullShare p.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (fold1 x0 x1 x2 x3 p).1 ∗ owns (c : Thread nD τ) arg9 fullShare (fold1 x0 x1 x2 x3 p).2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    sl_open_run
    repeat (first | rw [View.readAt_writes_full] | rw [View.readCov_full] | rw [View.readAt_full])
    simp only [hf0, hf1, hf2, hf3, hf4, hf5, hf6]
    rfl
  iexists _; isplitr
  swap; · iexact H6
  ipureintro
  refine (View.read_writes_full _ _ _ _ _).trans ?_
  sl_open_run
  repeat (first | rw [View.readAt_writes_full] | rw [View.readCov_full] | rw [View.readAt_full])
  simp only [hf0, hf1, hf2, hf3, hf4, hf5, hf6]
  rfl

set_option maxHeartbeats 1000000 in
/-- The body where the pair is carried on and the output is stored: the output's buffer holds the folded sums divided by their last row. -/
theorem body1C (c : Dev nD) (E : Set ℕ) (i : grid1.Coords) (arg3 : Memref sig .tc .vmem S1x1024x64 .f32) (harg3 : arg3.IsWhole) (arg4 : Memref sig .tc .vmem S1x512x64 .f32) (harg4 : arg4.IsWhole) (arg5 : Memref sig .tc .vmem S1x65x512 .f32) (harg5 : arg5.IsWhole) (arg6 : Memref sig .tc .vmem S1x512 .f32) (harg6 : arg6.IsWhole) (arg7 : Memref sig .tc .vmem S1x64x1024 .f32) (harg7 : arg7.IsWhole) (arg8 : Memref sig .tc .vmem S65x1024 .f32) (harg8 : arg8.IsWhole) (arg9 : Memref sig .tc .vmem S1x1024 .f32) (harg9 : arg9.IsWhole) (hc0 : ¬first1 i) (hc1 : last1 i)
    (x0 : Vec F S1x1024x64 .f32) (x1 : Vec F S1x512x64 .f32) (x2 : Vec F S1x65x512 .f32) (x3 : Vec F S1x512 .f32) (p : Pair F) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare p.1 ∗ owns (c : Thread nD τ) arg9 fullShare p.2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k1_pay2 (fold1 x0 x1 x2 x3 p).1) ∗ owns (c : Thread nD τ) arg8 fullShare (fold1 x0 x1 x2 x3 p).1 ∗ owns (c : Thread nD τ) arg9 fullShare (fold1 x0 x1 x2 x3 p).2) -∗ K ⟨⟩))
      ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg8.eq_unread hf5; obtain rfl := harg9.eq_unread hf6
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full _ _ _ _ _).trans ?_
    sl_open_run
    repeat (first | rw [View.readAt_writes_full] | rw [View.readCov_full] | rw [View.readAt_full])
    simp only [hf0, hf1, hf2, hf3, hf5, hf6]
    rfl
  isplitl [H5]
  · iexists _; isplitr
    swap; · iexact H5
    ipureintro
    refine (View.read_writes_full _ _ _ _ _).trans ?_
    sl_open_run
    repeat (first | rw [View.readAt_writes_full] | rw [View.readCov_full] | rw [View.readAt_full])
    simp only [hf0, hf1, hf2, hf3, hf5, hf6]
    rfl
  iexists _; isplitr
  swap; · iexact H6
  ipureintro
  refine (View.read_writes_full _ _ _ _ _).trans ?_
  sl_open_run
  repeat (first | rw [View.readAt_writes_full] | rw [View.readCov_full] | rw [View.readAt_full])
  simp only [hf0, hf1, hf2, hf3, hf5, hf6]
  rfl

/-- The buffers of the region's scoped rest the body does not touch, and the generator register. -/
def idleRest (c : Dev nD) : sProp 𝕄 :=
  iprop((∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ r, prngReg c r))

/-- The two scratch buffers at a pair. -/
def scratchAt (c : Dev nD) (p : Pair F) : sProp 𝕄 :=
  iprop(owns (c : Thread nD τ) (Memref.whole cc1_scratch0 : Memref sig .tc .vmem S65x1024 .f32) fullShare p.1
    ∗ owns (c : Thread nD τ) (Memref.whole cc1_scratch1 : Memref sig .tc .vmem S1x1024 .f32) fullShare p.2)

/-- The two scratch buffers at anything. -/
def scratchAny (c : Dev nD) : sProp 𝕄 :=
  iprop((∃ d, owns (c : Thread nD τ) (Memref.whole cc1_scratch0 : Memref sig .tc .vmem S65x1024 .f32) fullShare d)
    ∗ (∃ d, owns (c : Thread nD τ) (Memref.whole cc1_scratch1 : Memref sig .tc .vmem S1x1024 .f32) fullShare d))

/-- Scratch buffers at a pair are scratch buffers at anything. -/
theorem scratchAt_any (c : Dev nD) (p : Pair F) : scratchAt c p ⊢ (scratchAny c : sProp 𝕄) := by
  unfold scratchAt scratchAny
  iintro ⟨H0, H1⟩
  isplitl [H0]
  · iexists _; iexact H0
  iexists _; iexact H1

/-- What the region is entered with holds the two scratch buffers at anything and the rest. -/
theorem enter1 (c : Dev nD) : (Pipeline.ΦA spec1 c : sProp 𝕄) ⊢ iprop(scratchAny c ∗ idleRest c) := by
  unfold Pipeline.ΦA scratchAny idleRest; rw [scopedRest1_eq]; simp only [owns_whole]
  iintro ⟨⟨H0, H1, H2, H3, H4, H5, H6⟩, Hr⟩
  isplitl [H2 H3]
  · isplitl [H2]
    · iexact H2
    iexact H3
  isplitl [H0]; · iexact H0
  isplitl [H1]; · iexact H1
  isplitl [H4]; · iexact H4
  isplitl [H5]; · iexact H5
  isplitl [H6]; · iexact H6
  iexact Hr

/-- And back. -/
theorem leave1 (c : Dev nD) : iprop(scratchAny c ∗ idleRest c) ⊢ (Pipeline.ΦA spec1 c : sProp 𝕄) := by
  unfold Pipeline.ΦA scratchAny idleRest; rw [scopedRest1_eq]; simp only [owns_whole]
  iintro ⟨⟨H2, H3⟩, H0, H1, H4, H5, H6, Hr⟩
  isplitr [Hr]
  · isplitl [H0]; · iexact H0
    isplitl [H1]; · iexact H1
    isplitl [H2]; · iexact H2
    isplitl [H3]; · iexact H3
    isplitl [H4]; · iexact H4
    isplitl [H5]; · iexact H5
    iexact H6
  iexact Hr

section Region
-- the buffers' contents when the region is entered
variable (V : (c : Dev nD) → (b : Ref sig .tc) → Buf (Elt F) ((c : Thread nD τ).loc b))

/-- Window `w`'s block at point `t` of region 1, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's fold of the pair, over the blocks the region finds. -/
def next1 (c : Dev nD) (t : Fin cfg1.N) (p : Pair F) : Pair F :=
  fold1 (blk1 V c 0 t) (blk1 V c 1 t) (blk1 V c 2 t) (blk1 V c 3 t) p

/-- The pair after point `n`: folded from the fresh pair at the points divisible by 16, from the point
    before's elsewhere. -/
def pair1 (c : Dev nD) : (n : ℕ) → n < cfg1.N → Pair F
  | 0, h => next1 V c ⟨0, h⟩ fresh
  | n + 1, h => next1 V c ⟨n + 1, h⟩ (if (n + 1) % 16 = 0 then fresh else pair1 c n (Nat.lt_of_succ_lt h))

/-- At a point divisible by 16 the pair is folded from the fresh one. -/
theorem pair1_first (c : Dev nD) (t : Fin cfg1.N) (h0 : t.val % 16 = 0) :
    pair1 V c t.val t.isLt = next1 V c t fresh := by
  obtain ⟨n, hn⟩ := t
  cases n with
  | zero => rfl
  | succ n => unfold pair1; rw [if_pos h0]

/-- Elsewhere it is folded from the pair of the point before. -/
theorem pair1_next (c : Dev nD) (t : Fin cfg1.N) (h0 : ¬t.val % 16 = 0) :
    pair1 V c t.val t.isLt = next1 V c t (pair1 V c (t.val - 1) (Nat.lt_of_le_of_lt (Nat.sub_le _ _) t.isLt)) := by
  obtain ⟨n, hn⟩ := t
  cases n with
  | zero => exact absurd (Nat.zero_mod _) h0
  | succ n => rw [pair1, if_neg h0]; rfl

/-- The invariant before point `n`: the scratch buffers at the pair the point before left (at anything
    before the first point), and the rest. -/
def inv1 (c : Dev nD) : (n : ℕ) → n ≤ cfg1.N → sProp 𝕄
  | 0, _ => iprop(scratchAny c ∗ idleRest c)
  | n + 1, h => iprop(scratchAt c (pair1 V c n h) ∗ idleRest c)

/-- The invariant at a position after the first. -/
theorem inv1_pos (c : Dev nD) (n : ℕ) (h : n ≤ cfg1.N) (hz : n ≠ 0) :
    inv1 V c n h = iprop(scratchAt c (pair1 V c (n - 1) (by omega)) ∗ idleRest c) := by
  cases n with
  | zero => exact absurd rfl hz
  | succ n => rfl

/-- At every position the scratch buffers are at something. -/
theorem inv1_any (c : Dev nD) (n : ℕ) (h : n ≤ cfg1.N) : inv1 V c n h ⊢ iprop(scratchAny c ∗ idleRest c) := by
  cases n with
  | zero => exact .rfl
  | succ n =>
    unfold inv1
    iintro ⟨H, Hr⟩
    isplitl [H]
    · iapply (scratchAt_any c _); iexact H
    iexact Hr

/-- Region 1's proof data: each input's buffer keeps its block, the output's holds the sums divided by
    their last row wherever it is stored; the invariant follows the scratch pair. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => k1_pay2 (pair1 V c t.val t.isLt).1
  Φ t := inv1 V c t.val (Nat.le_of_lt_succ t.isLt)
  q _ := fullShare
  owed _ := 0

/-- The arrays of region 1's proof data are the entry contents. -/
theorem dat1_A (c : Dev nD) (w : Fin cfg1.W) : (dat1 V c).A w = V c (Pipeline.arrRef spec1 w) := by
  dsimp only [dat1]
/-- The body leaves input 0's block in place. -/
theorem dat1_after0 (c : Dev nD) (t : Fin cfg1.N) : (dat1 V c).after 0 t = blk1 V c 0 t := by dsimp only [dat1]
/-- The body leaves input 1's block in place. -/
theorem dat1_after1 (c : Dev nD) (t : Fin cfg1.N) : (dat1 V c).after 1 t = blk1 V c 1 t := by dsimp only [dat1]
/-- The body leaves input 2's block in place. -/
theorem dat1_after2 (c : Dev nD) (t : Fin cfg1.N) : (dat1 V c).after 2 t = blk1 V c 2 t := by dsimp only [dat1]
/-- The body leaves input 3's block in place. -/
theorem dat1_after3 (c : Dev nD) (t : Fin cfg1.N) : (dat1 V c).after 3 t = blk1 V c 3 t := by dsimp only [dat1]
/-- The body leaves the divided sums in the output's buffer. -/
theorem dat1_after4 (c : Dev nD) (t : Fin cfg1.N) :
    (dat1 V c).after 4 t = k1_pay2 (pair1 V c t.val t.isLt).1 := by dsimp only [dat1]
/-- The invariant at a point's start. -/
theorem dat1_inv (c : Dev nD) (t : Fin cfg1.N) : (dat1 V c).Φ t.castSucc = inv1 V c t.val (Nat.le_of_lt t.isLt) := by
  dsimp only [dat1]; exact Pipeline.Dat.Φ_castSucc (inv1 V c) t

/-- Input 0's buffer holds its block when the body is entered. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]) t d).trans
    (by unfold Dat.fetched Dat.blockOf blk1; rw [dat1_A]; try rfl)
/-- Input 1's buffer holds its block when the body is entered. -/
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]) t d).trans
    (by unfold Dat.fetched Dat.blockOf blk1; rw [dat1_A]; try rfl)
/-- Input 2's buffer holds its block when the body is entered. -/
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]) t d).trans
    (by unfold Dat.fetched Dat.blockOf blk1; rw [dat1_A]; try rfl)
/-- Input 3's buffer holds its block when the body is entered. -/
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]) t d).trans
    (by unfold Dat.fetched Dat.blockOf blk1; rw [dat1_A]; try rfl)

/-- What region 1's body is entered with at a point, window by window. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What region 1's body leaves at a point, window by window. -/
def post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t)

/-- Region 1's body at a point takes `pre1` to `post1`. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3]
  rw [show (dat1 V c).owesAt () t.succ = (dat1 V c).owesAt () t.castSucc from rfl,
    show (dat1 V c).Φ t.succ = iprop(scratchAt c (pair1 V c t.val t.isLt) ∗ idleRest c) from rfl,
    dat1_inv]
  rw [show (dat1 V c).leavesExact 0 t = owns (c : Thread nD τ) (st1_0 t) fullShare ((dat1 V c).after 0 t) from by
    unfold Dat.leavesExact; rw [live1_0 t], dat1_after0]
  rw [show (dat1 V c).leavesExact 1 t = owns (c : Thread nD τ) (st1_1 t) fullShare ((dat1 V c).after 1 t) from by
    unfold Dat.leavesExact; rw [live1_1 t], dat1_after1]
  rw [show (dat1 V c).leavesExact 2 t = owns (c : Thread nD τ) (st1_2 t) fullShare ((dat1 V c).after 2 t) from by
    unfold Dat.leavesExact; rw [live1_2 t], dat1_after2]
  rw [show (dat1 V c).leavesExact 3 t = owns (c : Thread nD τ) (st1_3 t) fullShare ((dat1 V c).after 3 t) from by
    unfold Dat.leavesExact; rw [live1_3 t], dat1_after3]
  by_cases h0 : t.val % 16 = 0
  · have h1 : ¬t.val % 16 = 15 := by omega
    rw [Dat.leavesExact_idle (dat1 V c) 4 t (idle1_4 t fun h => h1 ((last1_iff t).mp h)) (keep1_4 t fun h => h1 ((last1_iff t).mp h))]
    rw [pair1_first V c t h0]
    unfold scratchAt next1
    iintro ⟨HI, Ho, ⟨%d0, H0⟩, ⟨%d1, H1⟩, ⟨%d2, H2⟩, ⟨%d3, H3⟩, ⟨%d4, H4⟩⟩
    ihave HJ := (inv1_any V c _ _) $$ HI
    unfold scratchAny
    icases HJ with ⟨⟨HS0, HS1⟩, Hr⟩
    iapply (body1A c Set.univ (grid1.coords t) _ _ _ _ _ _ _ _ _ _ _ _ _ _ ((first1_iff t).mpr h0) (fun h => h1 ((last1_iff t).mp h)) (blk1 V c 0 t) (blk1 V c 1 t) (blk1 V c 2 t) (blk1 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hr]
    · isplitl [HS0 HS1]
      · isplitl [HS0]
        · iexact HS0
        iexact HS1
      iexact Hr
    isplitl [Ho]; · iexact Ho
    isplitl [H0]; · iexact H0
    isplitl [H1]; · iexact H1
    isplitl [H2]; · iexact H2
    isplitl [H3]; · iexact H3
    iexists _; iexact H4
  · by_cases h1 : t.val % 16 = 15
    · rw [show (dat1 V c).leavesExact 4 t = owns (c : Thread nD τ) (st1_4 t) fullShare ((dat1 V c).after 4 t) from by
        unfold Dat.leavesExact; rw [live1_4 t ((last1_iff t).mpr h1)], dat1_after4]
      rw [pair1_next V c t h0, inv1_pos V c t.val _ (fun h => h0 (by rw [h]))]
      unfold scratchAt next1
      iintro ⟨⟨⟨HS0, HS1⟩, Hr⟩, Ho, ⟨%d0, H0⟩, ⟨%d1, H1⟩, ⟨%d2, H2⟩, ⟨%d3, H3⟩, ⟨%d4, H4⟩⟩
      iapply (body1C c Set.univ (grid1.coords t) _ _ _ _ _ _ _ _ _ _ _ _ _ _ (fun h => h0 ((first1_iff t).mp h)) ((last1_iff t).mpr h1) (blk1 V c 0 t) (blk1 V c 1 t) (blk1 V c 2 t) (blk1 V c 3 t) _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr]
      · isplitl [HS0 HS1]
        · isplitl [HS0]
          · iexact HS0
          iexact HS1
        iexact Hr
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t fun h => h1 ((last1_iff t).mp h)) (keep1_4 t fun h => h1 ((last1_iff t).mp h))]
      rw [pair1_next V c t h0, inv1_pos V c t.val _ (fun h => h0 (by rw [h]))]
      unfold scratchAt next1
      iintro ⟨⟨⟨HS0, HS1⟩, Hr⟩, Ho, ⟨%d0, H0⟩, ⟨%d1, H1⟩, ⟨%d2, H2⟩, ⟨%d3, H3⟩, ⟨%d4, H4⟩⟩
      iapply (body1B c Set.univ (grid1.coords t) _ _ _ _ _ _ _ _ _ _ _ _ _ _ (fun h => h0 ((first1_iff t).mp h)) (fun h => h1 ((last1_iff t).mp h)) (blk1 V c 0 t) (blk1 V c 1 t) (blk1 V c 2 t) (blk1 V c 3 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitl [HS0 HS1]
        · isplitl [HS0]
          · iexact HS0
          iexact HS1
        iexact Hr
      isplitl [Ho]; · iexact Ho
      isplitl [H0]; · iexact H0
      isplitl [H1]; · iexact H1
      isplitl [H2]; · iexact H2
      isplitl [H3]; · iexact H3
      iexists _; iexact H4

/-- The body the pipeline calls at a point is the printed body at that point's buffers. -/
theorem row1 (t : Fin cfg1.N) :
    defs₀ (F := F) .tc cfg1.body (cfg1.bodyArgs t (cfg1.slots t)) = bodyAt1 t := by
  unfold defs₀; rw [Defs.onTc_tc]

/-- Region 1's body meets the obligation its proof data put on it, at every point. -/
theorem oblig1 (c : Dev nD) : BodyObligation (dat1 (F := F) V c) (defs₀ (F := F)) Variants.none () Set.univ := fun t => by
  rw [bigSep_W1, bigSep_W1, row1]
  exact triple_restated (point1 V c t) rfl .rfl fun _ => .rfl

/-- What the region is entered with is the invariant before the first point. -/
theorem start1 (c : Dev nD) : Pipeline.ΦA spec1 c ⊢ (dat1 V c).Φ 0 := by
  rw [show (dat1 V c).Φ 0 = iprop(scratchAny c ∗ idleRest c) from rfl]
  exact enter1 c

/-- The invariant after the last point gives back what the region was entered with. -/
theorem stop1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl]
  exact (inv1_any V c _ _).trans (leave1 c)

end Region

end Cert.KernelIdeal.Hand
-- ==== Proof.Run.lean ====
/-
  The whole program's run: the buffers' contents at each boundary between its host stretches and its two
  kernel regions, the regions as segments, and the launch. Every execution ends with every unscoped
  buffer at the last boundary's contents and every semaphore at zero.
-/
module

public import proofs.«01_k».proof.Proof.Region0
public import proofs.«01_k».proof.Proof.Region1
public import proofs.«01_k».proof.Proof.Gen.KernelIdeal.Regions

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six argument arrays. -/
abbrev args : List (Ref sig .tc) := [main_arg0, main_arg1, main_arg2, main_arg3, main_arg4, main_arg5]

/-- The contents at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second. -/
abbrev W2 : Dev nD → Valuation τ sig (Elt F) := fun c => StableHlo.after hostOps0_1 (W1 m ρ c)
/-- After the third, where region 0 is entered. -/
abbrev W3 : Dev nD → Valuation τ sig (Elt F) := fun c => StableHlo.after hostOps0_2 (W2 m ρ c)
/-- The same at the core's references. -/
abbrev C3 : (c : Dev nD) → (b : Ref sig .tc) → Buf (Elt F) ((c : Thread nD τ).loc b) := fun c b => W3 m ρ c b
/-- After region 0: its arrays as the pipeline leaves them, the rest as entered. -/
def W4 (c : Dev nD) : Valuation τ sig (Elt F) :=
  Pipeline.withArrays spec0 c (W3 m ρ c) fun w => (dat0 (C3 m ρ) c).arrAt w cfg0.N
/-- The same at the core's references. -/
abbrev C4 : (c : Dev nD) → (b : Ref sig .tc) → Buf (Elt F) ((c : Thread nD τ).loc b) := fun c b => W4 m ρ c b
/-- After the host stretch between the regions. -/
abbrev W5 : Dev nD → Valuation τ sig (Elt F) := fun c => StableHlo.after hostOps1 (W4 m ρ c)
/-- The same at the core's references. -/
abbrev C5 : (c : Dev nD) → (b : Ref sig .tc) → Buf (Elt F) ((c : Thread nD τ).loc b) := fun c b => W5 m ρ c b
/-- After region 1. -/
def W6 (c : Dev nD) : Valuation τ sig (Elt F) :=
  Pipeline.withArrays spec1 c (W5 m ρ c) fun w => (dat1 (C5 m ρ) c).arrAt w cfg1.N
/-- The same at the core's references. -/
abbrev C6 : (c : Dev nD) → (b : Ref sig .tc) → Buf (Elt F) ((c : Thread nD τ).loc b) := fun c b => W6 m ρ c b
/-- After the last host stretch. -/
abbrev W7 : Dev nD → Valuation τ sig (Elt F) := fun c => StableHlo.after hostOps2 (W6 m ρ c)

/-- An array of region 0 after it: what the pipeline leaves. -/
theorem W4_arr (c : Dev nD) (w : Fin cfg0.W) :
    W4 m ρ c (Proc.devRef .tc (Pipeline.arrRef spec0 w)) = (dat0 (C3 m ρ) c).arrAt w cfg0.N := by
  unfold W4; exact Pipeline.withArrays_arr spec0 launch0.win.arr_inj c _ _ w
/-- A buffer that is no array of region 0 is as entered. -/
theorem W4_rest (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A buffer that is no output array of region 0 is as entered. -/
theorem W4_same (c : Dev nD) (r : Ref sig .tc) (h : ∀ w : Fin cfg0.W, Pipeline.arrRef spec0 w = r → (cfg0.win w).isOut = false) :
    W4 m ρ c (Proc.devRef .tc r) = W3 m ρ c (Proc.devRef .tc r) := by
  rcases Classical.em (∃ w : Fin cfg0.W, Pipeline.arrRef spec0 w = r) with ⟨w, rfl⟩ | hn
  · rw [W4_arr, (dat0 (C3 m ρ) c).arrAt_in w (h w rfl), dat0_A]
  · exact W4_rest m ρ c r fun w e => hn ⟨w, e⟩
/-- No argument is an output array of region 0. -/
theorem args_in0 : ∀ a ∈ args, ∀ w : Fin cfg0.W, Pipeline.arrRef spec0 w = a → (cfg0.win w).isOut = false :=
  ListAll.forall_mem_of_all_decide (by decide +kernel)
/-- An array of region 1 after it: what the pipeline leaves. -/
theorem W6_arr (c : Dev nD) (w : Fin cfg1.W) :
    W6 m ρ c (Proc.devRef .tc (Pipeline.arrRef spec1 w)) = (dat1 (C5 m ρ) c).arrAt w cfg1.N := by
  unfold W6; exact Pipeline.withArrays_arr spec1 launch1.win.arr_inj c _ _ w
/-- A buffer that is no array of region 1 is as entered. -/
theorem W6_rest (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A buffer that is no output array of region 1 is as entered. -/
theorem W6_same (c : Dev nD) (r : Ref sig .tc) (h : ∀ w : Fin cfg1.W, Pipeline.arrRef spec1 w = r → (cfg1.win w).isOut = false) :
    W6 m ρ c (Proc.devRef .tc r) = W5 m ρ c (Proc.devRef .tc r) := by
  rcases Classical.em (∃ w : Fin cfg1.W, Pipeline.arrRef spec1 w = r) with ⟨w, rfl⟩ | hn
  · rw [W6_arr, (dat1 (C5 m ρ) c).arrAt_in w (h w rfl), dat1_A]
  · exact W6_rest m ρ c r fun w e => hn ⟨w, e⟩
/-- No argument is an output array of region 1. -/
theorem args_in1 : ∀ a ∈ args, ∀ w : Fin cfg1.W, Pipeline.arrRef spec1 w = a → (cfg1.win w).isOut = false :=
  ListAll.forall_mem_of_all_decide (by decide +kernel)

/-- No host stretch writes an argument. -/
theorem args_kept : ∀ a ∈ args, a ∉ hostOps0_W ∧ a ∉ hostOps0_1_W ∧ a ∉ hostOps0_2_W ∧ a ∉ hostOps1_W ∧ a ∉ hostOps2_W :=
  ListAll.forall_mem_of_all_decide (by decide +kernel)
/-- The arguments reach region 0 as launched. -/
theorem W3_args (c : Dev nD) : ∀ a ∈ args, W3 m ρ c (Proc.devRef .tc a) = m ((c : Thread nD τ).loc a) := fun a ha =>
  (StableHlo.after_of_writes_sub hostOps0_2 _ hostOps0_2_writes (args_kept a ha).2.2.1).trans
    ((StableHlo.after_of_writes_sub hostOps0_1 _ hostOps0_1_writes (args_kept a ha).2.1).trans
      (StableHlo.after_of_writes_sub hostOps0 _ hostOps0_writes (args_kept a ha).1))
/-- The arguments leave region 0 as launched. -/
theorem W4_args (c : Dev nD) : ∀ a ∈ args, W4 m ρ c (Proc.devRef .tc a) = m ((c : Thread nD τ).loc a) := fun a ha =>
  (W4_same m ρ c a (args_in0 a ha)).trans (W3_args m ρ c a ha)
/-- The arguments reach region 1 as launched. -/
theorem W5_args (c : Dev nD) : ∀ a ∈ args, W5 m ρ c (Proc.devRef .tc a) = m ((c : Thread nD τ).loc a) := fun a ha =>
  (StableHlo.after_of_writes_sub hostOps1 _ hostOps1_writes (args_kept a ha).2.2.2.1).trans (W4_args m ρ c a ha)
/-- The arguments end as launched. -/
theorem W7_args (c : Dev nD) : ∀ a ∈ args, W7 m ρ c (Proc.devRef .tc a) = m ((c : Thread nD τ).loc a) := fun a ha =>
  (StableHlo.after_of_writes_sub hostOps2 _ hostOps2_writes (args_kept a ha).2.2.2.2).trans
    ((W6_same m ρ c a (args_in1 a ha)).trans (W5_args m ρ c a ha))

/-- Neither pipeline has a prefetched table. -/
abbrev adm : (p : Fin 2) → (pcfgs (F := F) p).Adm := fun p => (cfgs p).toPCfg_adm
/-- The two regions' proof data, each at its entry contents. -/
def pdats : (p : Fin 2) → (c : Dev nD) → Dat τ (Elt F) Unit ℕ (UR sig nD τ) ℕ (Pipeline.pin (pcfgs (F := F)) adm p) c
  | ⟨0, _⟩ => fun c => dat0 (C3 m ρ) c
  | ⟨1, _⟩ => fun c => dat1 (C5 m ρ) c
/-- No variant is used. -/
abbrev vars : Variants := Variants.none
/-- No level is assigned: no core owes another anything. -/
abbrev lev : GSem nD τ sig → Finset Unit := fun _ => ∅
/-- The levels' values, unused. -/
abbrev levVal : GSem nD τ sig → Unit → ℕ := fun _ _ => 0
/-- What rides beside the buffers: the generator register, and the core owing nothing. -/
abbrev side (c : Dev nD) : sProp 𝕄 := iprop((∃ r, prngReg c r) ∗ ∃ W, owes (c : Thread nD τ) (0 : CellTallies nD τ sig Unit) W)
/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lev levVal :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state the run ends in: every unscoped buffer at the last contents, the generator register at something. -/
abbrev ending (c : Dev nD) : sProp 𝕄 := iprop(StableHlo.held (c : Thread nD τ) (Pipeline.ucRefs τ sig) (W7 m ρ c) ∗ ∃ r, prngReg c r)

-- unification may unfold plain definitions in a metavariable's type
set_option backward.isDefEq.respectTransparency.types false in
/-- Region 0 as a segment: entered from every unscoped buffer at `W3`, left with them at `W4`. -/
def reg0 : Pipeline.RegionSeg (pcfgs (F := F)) adm (pdats m ρ) () defs₀ vars lev levVal 0 where
  win := launch0.win.to₀
  block_pos := launch0.block_pos
  stage_whole := launch0.stage_whole
  K := PEmpty
  osem k := k.elim
  ho := Pipeline.OwnSemFacts.none _
  hbody c := (oblig0 (C3 m ρ) c).loose
  hwaits := Pipeline.hwaits_of_owed_zero _ _ _ _ lev levVal 0 fun _ _ => rfl
  pre c := iprop(StableHlo.held (c : Thread nD τ) (Pipeline.ucRefs τ sig) (W3 m ρ c) ∗ side c)
  post c := iprop(StableHlo.held (c : Thread nD τ) (Pipeline.ucRefs τ sig) (W4 m ρ c) ∗ side c)
  X c := iprop(∃ r, prngReg c r)
  Y c := iprop(∃ r, prngReg c r)
  Z c := Pipeline.unscopedRest (Ix := Unit) (Name := ℕ) (U := UR sig nD τ) (Lvl := ℕ) spec0 c (C3 m ρ c)
  hentry c := by
    rw [Pipeline.ownSems0_none]
    have hs := Pipeline.arrays_of_unscopedBufs (p := 0) (pcfgs (F := F)) adm (pdats m ρ) launch0.win launch0.arr_whole c
      ((pdats m ρ 0 c).share_full fun _ => rfl) (C3 m ρ c) (dat0_A (C3 m ρ) c)
    rw [Pipeline.unscopedBufs_held] at hs
    iintro ⟨⟨Hb, Hp, HO⟩, -, -⟩
    ihave H := hs $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (C3 m ρ c) (C4 m ρ c) ((pdats m ρ 0 c).arrAt · cfg0.N) (fun w => (W4_arr m ρ c w).symm)
      (fun b hb => W4_rest m ρ c b fun w e => hb (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- unification may unfold plain definitions in a metavariable's type
set_option backward.isDefEq.respectTransparency.types false in
/-- Region 1 as a segment: entered from every unscoped buffer at `W5`, left with them at `W6`. -/
def reg1 : Pipeline.RegionSeg (pcfgs (F := F)) adm (pdats m ρ) () defs₀ vars lev levVal 1 where
  win := launch1.win.to₀
  block_pos := launch1.block_pos
  stage_whole := launch1.stage_whole
  K := PEmpty
  osem k := k.elim
  ho := Pipeline.OwnSemFacts.none _
  hbody c := (oblig1 (C5 m ρ) c).loose
  hwaits := Pipeline.hwaits_of_owed_zero _ _ _ _ lev levVal 1 fun _ _ => rfl
  pre c := iprop(StableHlo.held (c : Thread nD τ) (Pipeline.ucRefs τ sig) (W5 m ρ c) ∗ side c)
  post c := iprop(StableHlo.held (c : Thread nD τ) (Pipeline.ucRefs τ sig) (W6 m ρ c) ∗ side c)
  X c := iprop(∃ r, prngReg c r)
  Y c := iprop(∃ r, prngReg c r)
  Z c := Pipeline.unscopedRest (Ix := Unit) (Name := ℕ) (U := UR sig nD τ) (Lvl := ℕ) spec1 c (C5 m ρ c)
  hentry c := by
    rw [Pipeline.ownSems0_none]
    have hs := Pipeline.arrays_of_unscopedBufs (p := 1) (pcfgs (F := F)) adm (pdats m ρ) launch1.win launch1.arr_whole c
      ((pdats m ρ 1 c).share_full fun _ => rfl) (C5 m ρ c) (dat1_A (C5 m ρ) c)
    rw [Pipeline.unscopedBufs_held] at hs
    iintro ⟨⟨Hb, Hp, HO⟩, -, -⟩
    ihave H := hs $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := start1 (C5 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last (Pipeline.pin (pcfgs (F := F)) adm 1).N) ⊢ Pipeline.ΦA spec1 c := stop1 (C5 m ρ) c
    unfold Pipeline.ΦA at h
    iintro HΦ
    ihave HA := h $$ HΦ
    icases HA with ⟨Hr, Hp⟩
    isplitl [Hp]; · iexact Hp
    isplitr; · iempintro
    iexact Hr
  hexit c := by
    have hj := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (C5 m ρ c) (C6 m ρ c) ((pdats m ρ 1 c).arrAt · cfg1.N) (fun w => (W6_arr m ρ c w).symm)
      (fun b hb => W6_rest m ρ c b fun w e => hb (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-- The program's seven segments in order. -/
abbrev segs : List (Pipeline.Seg (pcfgs (F := F)) adm (pdats m ρ) () defs₀ vars lev levVal) :=
  [ .host (stretch hostOps0 hostOps0_sub hostOps0_fresh (W0 m ρ)),
    .host (stretch hostOps0_1 hostOps0_1_sub hostOps0_1_fresh (W1 m ρ)),
    .host (stretch hostOps0_2 hostOps0_2_sub hostOps0_2_fresh (W2 m ρ)),
    .region (reg0 m ρ),
    .host (stretch hostOps1 hostOps1_sub hostOps1_fresh (W4 m ρ)),
    .region (reg1 m ρ),
    .host (stretch hostOps2 hostOps2_sub hostOps2_fresh (W6 m ρ)) ]
/-- The program is the run of its segments. -/
theorem main_segs (c : Dev nD) : main (F := F) c = Pipeline.Seg.run (segs m ρ) := (main_chain c).trans (by chain_rfl)

set_option backward.isDefEq.respectTransparency.types false in
/-- THE RUN: from any memory with every semaphore at zero, every execution ends without fault, with every
    unscoped buffer at the last boundary's contents and every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ vars lev levVal m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ side c)) (Tₙ := ending m ρ)
    (hch := ⟨fun _ => .rfl, fun _ => .rfl, fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach lev levVal fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c => h c, funext fun g => hz g (.inr (regions_no_unscoped g.2))⟩)

/-- An argument at the end of any execution is as launched. -/
theorem end_arg {mem : (ℓ : Loc nD τ sig) → Buf (Elt F) ℓ} {c : Dev nD}
    (h : ∀ b ∈ Pipeline.ucRefs τ sig, mem (((c : Thread nD τ)).1, b) = W7 m ρ c b) (a : Ref sig .tc)
    (hs : ¬ (Proc.devRef .tc a : DevRef τ sig).isScoped) (ha : a ∈ args) :
    mem ((c.tc : Thread nD τ).loc a) = m ((c.tc : Thread nD τ).loc a) :=
  (h _ (mem_uc a hs)).trans (W7_args m ρ c a ha)

/-- THE FRAME: every execution ends without fault, the arguments as launched and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨end_arg m ρ (h.1 c) main_arg0 (by decide) (by decide), end_arg m ρ (h.1 c) main_arg1 (by decide) (by decide),
     end_arg m ρ (h.1 c) main_arg2 (by decide) (by decide), end_arg m ρ (h.1 c) main_arg3 (by decide) (by decide),
     end_arg m ρ (h.1 c) main_arg4 (by decide) (by decide), end_arg m ρ (h.1 c) main_arg5 (by decide) (by decide)⟩, h.2⟩)
    (run_all m ρ)

end Cert.KernelIdeal.Hand
-- ==== Proof.Julia.lean ====
/-
  The escape-time iteration, kernel against reference, at the ideal reading.

  The kernel iterates on the points laid out as eight rows of 1024, the reference on one vector of
  8192. Every operation of a step is elementwise, so the kernel's state is the reference's state,
  reshaped, step after step; the only arithmetic is that the kernel's printed step times `n/64` are
  the quotients the reference computes.
-/
module

public import proofs.«01_k».proof.Proof.Weight
public import proofs.«01_k».proof.Proof.Gen.ReferenceIdeal.Step
public import Idealize.ShloMosaic.Lib.Pointwise

@[expose] public section

set_option maxRecDepth 16384

noncomputable section

namespace Cert.Value

open Idealize.ShloMosaic
open Cert.KernelIdeal.Hand (St start times run weight)

/-- The reference's state of the iteration. -/
abbrev RSt := Cert.ReferenceIdeal.Step.State Ideal

/-- The only index of a scalar. -/
abbrev i0 : Cert.ReferenceIdeal.S_.Idx := ix0

/-- The reference's state laid out as the kernel's. -/
def lay (s : RSt) : St Ideal where
  zr := shapeCast Cert.KernelIdeal.S8x1024 s.main_v5_4 Cert.KernelIdeal.Gen.shapeCasts_S8192_S8x1024
  zi := shapeCast Cert.KernelIdeal.S8x1024 s.main_v5_5 Cert.KernelIdeal.Gen.shapeCasts_S8192_S8x1024
  esc := shapeCast Cert.KernelIdeal.S8x1024 s.main_v5_6 Cert.KernelIdeal.Gen.shapeCasts_S8192_S8x1024
  et := shapeCast Cert.KernelIdeal.S8x1024 s.main_v5_7 Cert.KernelIdeal.Gen.shapeCasts_S8192_S8x1024

/-- Flipping a flag by exclusive-or with one is negating it. -/
theorem xor_one (b : BitVec 1) : IntOp.xori b 1#1 = ~~~b := by
  rcases BitVec.eq_zero_or_eq_one b with rfl | rfl <;> decide

open Cert.ReferenceIdeal.Step in
/-- One step of the kernel on a laid-out state is the laid-out step of the reference, when the two scalars and the
    step's time agree. -/
theorem step_lay (v2 v3 t : Ideal .f32) (j : ℕ) (s : RSt) (h2 : v2 = s.main_v5_1 i0) (h3 : v3 = s.main_v5_2 i0)
    (ht : t = b25 j s i0) : Cert.KernelIdeal.Hand.step v2 v3 t (lay s) = lay (Cert.ReferenceIdeal.Step.step j s) := by
  have hb : ∀ (x : FVec Ideal Cert.ReferenceIdeal.S_ .f32) (i),
      broadcastInDim Cert.ReferenceIdeal.S8192 ![] Cert.ReferenceIdeal.Gen.bcast_S_S8192 x i = x i0 := fun x i =>
    congrArg x (funext fun a => a.elim0)
  subst h2 h3 ht
  have hz : Cert.KernelIdeal.Hand.zr1 (s.main_v5_1 i0) (lay s)
      = shapeCast Cert.KernelIdeal.S8x1024 (b13 j s) Cert.KernelIdeal.Gen.shapeCasts_S8192_S8x1024 := by
    funext i
    simp only [b13, b6, b5, b4, b3, b2, lay, Cert.KernelIdeal.Hand.zr1, Cert.KernelIdeal.Hand.nzr, shapeCast, select, addf, subf, mulf, broadcast, hb]
  have hi : Cert.KernelIdeal.Hand.zi1 (s.main_v5_2 i0) (lay s)
      = shapeCast Cert.KernelIdeal.S8x1024 (b14 j s) Cert.KernelIdeal.Gen.shapeCasts_S8192_S8x1024 := by
    funext i
    simp only [b14, b12, b11, b10, b9, b8, b7, lay, Cert.KernelIdeal.Hand.zi1, Cert.KernelIdeal.Hand.nzi, shapeCast, select, addf, subf, mulf, broadcast, hb]
    rfl
  have hn : Cert.KernelIdeal.Hand.newly (s.main_v5_1 i0) (s.main_v5_2 i0) (lay s)
      = shapeCast Cert.KernelIdeal.S8x1024 (b22 j s) Cert.KernelIdeal.Gen.shapeCasts_S8192_S8x1024 := by
    unfold Cert.KernelIdeal.Hand.newly Cert.KernelIdeal.Hand.mag
    rw [hz, hi]
    funext i
    simp only [b22, b21, b20, b19, b18, b17, b16, b15, lay, shapeCast, andi, noti, xori, cmpf, addf, mulf, broadcast, hb, constantI, xor_one]
    rfl
  unfold Cert.KernelIdeal.Hand.step Cert.KernelIdeal.Hand.et1
  rw [hz, hi, hn]
  unfold Cert.ReferenceIdeal.Step.step
  have he : select (shapeCast Cert.KernelIdeal.S8x1024 (b22 j s) Cert.KernelIdeal.Gen.shapeCasts_S8192_S8x1024)
      (broadcast Cert.KernelIdeal.S8x1024 (b25 j s i0)) (lay s).et
      = shapeCast Cert.KernelIdeal.S8x1024 (b27 j s) Cert.KernelIdeal.Gen.shapeCasts_S8192_S8x1024 := by
    funext i
    simp only [b27, b26, lay, shapeCast, select, broadcast, hb]
  rw [he]
  rfl

/-- The printed step times are the numbers `j / 64`. -/
theorem times_val : ∀ j : Fin 64, Ideal.ofBits .f32 (times.getD j.val 0#32) = (((j.val : ℝ) / 64 : ℝ) : EReal) := by
  intro j
  fin_cases j <;> simp [times, Ideal.ofBits, Ideal.ieee, -EReal.coe_mul] <;> norm_num

/-- The pattern of the number sixty-four. -/
theorem ofBits_64 : Ideal.ofBits .f32 0x42800000#32 = ((64 : ℝ) : EReal) := by
  simp [Ideal.ofBits, Ideal.ieee, -EReal.coe_mul]; norm_num

open Cert.ReferenceIdeal.Step in
/-- The trip's number, as the reference slices it out of its counter array. -/
theorem b1_val (s : RSt) : ∀ j : Fin 64, (b1 j.val s i0).toInt = (j.val : ℤ) := by
  intro j
  fin_cases j <;> rfl

open Cert.ReferenceIdeal.Step in
/-- The reference's step time is `j / 64`. -/
theorem b25_val (s : RSt) (j : Fin 64) : b25 j.val s i0 = (((j.val : ℝ) / 64 : ℝ) : EReal) := by
  have h : b25 j.val s i0 = Ideal.div ((((b1 j.val s i0).toInt : ℝ)) : EReal) (Ideal.ofBits .f32 0x42800000#32) := rfl
  rw [h, b1_val, ofBits_64, Ideal.div_coe (by norm_num)]
  rw [← EReal.coe_mul]
  congr 1
  push_cast
  ring

/-- The reference's states, trip after trip. -/
def iter (s0 : RSt) : ℕ → RSt
  | 0 => s0
  | n + 1 => Cert.ReferenceIdeal.Step.step n (iter s0 n)

/-- No trip changes the constant's real part. -/
theorem iter_re (s0 : RSt) : ∀ n, (iter s0 n).main_v5_1 = s0.main_v5_1
  | 0 => rfl
  | n + 1 => iter_re s0 n
/-- No trip changes the constant's imaginary part. -/
theorem iter_im (s0 : RSt) : ∀ n, (iter s0 n).main_v5_2 = s0.main_v5_2
  | 0 => rfl
  | n + 1 => iter_im s0 n

/-- The kernel's first `n` steps are the reference's first `n` trips, laid out. -/
theorem run_lay (s0 : RSt) : ∀ n, n ≤ 64 →
    run (s0.main_v5_1 i0) (s0.main_v5_2 i0) (times.take n) (lay s0) = lay (iter s0 n)
  | 0, _ => rfl
  | n + 1, h => by
    have hl : n < times.length := h
    have ih := run_lay s0 n (by omega)
    unfold run at ih ⊢
    rw [List.take_succ_eq_append_getElem hl, List.foldl_append, ih]
    refine step_lay _ _ _ n (iter s0 n) (by rw [iter_re]) (by rw [iter_im]) ?_
    have ht := times_val ⟨n, by omega⟩
    have hb := b25_val (iter s0 n) ⟨n, by omega⟩
    have hg : times.getD n 0#32 = times[n] := by rw [List.getD_eq_getElem?_getD, List.getElem?_eq_getElem hl]; rfl
    exact (congrArg (Ideal.ofBits .f32) hg).symm.trans (ht.trans hb.symm)

/-- The kernel's sixty-four steps are the reference's sixty-four trips, laid out. -/
theorem run_all_lay (s0 : RSt) :
    run (s0.main_v5_1 i0) (s0.main_v5_2 i0) times (lay s0) = lay (iter s0 64) := run_lay s0 64 (le_refl _)

/-- Every escape time recorded in the first `n` trips is a real number that is not negative. -/
theorem et_real (s0 : RSt) (h0 : ∀ k, ∃ r : ℝ, 0 ≤ r ∧ s0.main_v5_7 k = (r : EReal)) :
    ∀ n, n ≤ 64 → ∀ k, ∃ r : ℝ, 0 ≤ r ∧ (iter s0 n).main_v5_7 k = (r : EReal)
  | 0, _, k => h0 k
  | n + 1, h, k => by
    have hk : (iter s0 (n + 1)).main_v5_7 k
        = Scalar.select (Cert.ReferenceIdeal.Step.b22 n (iter s0 n) k) (Cert.ReferenceIdeal.Step.b26 n (iter s0 n) k)
            ((iter s0 n).main_v5_7 k) := rfl
    rw [hk]
    unfold Scalar.select
    split
    · refine ⟨(n : ℝ) / 64, by positivity, ?_⟩
      have hb : Cert.ReferenceIdeal.Step.b26 n (iter s0 n) k = Cert.ReferenceIdeal.Step.b25 n (iter s0 n) i0 :=
        congrArg (Cert.ReferenceIdeal.Step.b25 n (iter s0 n)) (funext fun a => a.elim0)
      rw [hb]
      exact b25_val (iter s0 n) ⟨n, by omega⟩
    · exact et_real s0 h0 n (by omega) k

/-- The state the reference's loop starts from, at the constant's two parts. -/
abbrev ini (a3 a4 : FVec Ideal Cert.ReferenceIdeal.S_ .f32) : RSt := Cert.ReferenceIdeal.Step.init a3 a4

/-- The escape times the reference ends with. -/
def et (a3 a4 : FVec Ideal Cert.ReferenceIdeal.S_ .f32) : FVec Ideal Cert.ReferenceIdeal.S8192 .f32 :=
  (iter (ini a3 a4) 64).main_v5_7

/-- They are real numbers that are not negative. -/
theorem et_nonneg (a3 a4 : FVec Ideal Cert.ReferenceIdeal.S_ .f32) (k) : ∃ r : ℝ, 0 ≤ r ∧ et a3 a4 k = (r : EReal) :=
  et_real (ini a3 a4) (fun k => ⟨1, zero_le_one, (Ideal.ofBits_one_f32 : _)⟩) 64 (le_refl _) k

/-- The kernel's starting state is the reference's, laid out. -/
theorem start_lay (a3 a4 : FVec Ideal Cert.ReferenceIdeal.S_ .f32) :
    start (shapeCast Cert.KernelIdeal.S8x1024 (Cert.ReferenceIdeal.Step.K_main_v0 (F := Ideal))
      Cert.KernelIdeal.Gen.shapeCasts_S8192_S8x1024) = lay (ini a3 a4) := by
  have hx : ∀ v : FVec Ideal Cert.KernelIdeal.S8x1024 .f32,
      shapeCast Cert.KernelIdeal.S8x1024 v Cert.KernelIdeal.Gen.shapeCasts_S8x1024_S8x1024 = v := fun v => by
    funext i; pointwise
  have hi : broadcast Cert.KernelIdeal.S8x1024 (Scalar.ofBits (F := Ideal) .f32 0x00000000#32)
      = shapeCast Cert.KernelIdeal.S8x1024 (Cert.ReferenceIdeal.Step.K_main_v1 (F := Ideal))
          Cert.KernelIdeal.Gen.shapeCasts_S8192_S8x1024 := rfl
  have he : broadcast Cert.KernelIdeal.S8x1024 0#1
      = shapeCast Cert.KernelIdeal.S8x1024 (Cert.ReferenceIdeal.Step.K_main_v2 (F := Ideal))
          Cert.KernelIdeal.Gen.shapeCasts_S8192_S8x1024 := rfl
  have ht : broadcast Cert.KernelIdeal.S8x1024 (Scalar.ofBits (F := Ideal) .f32 0x3F800000#32)
      = shapeCast Cert.KernelIdeal.S8x1024 (Cert.ReferenceIdeal.Step.K_main_v3 (F := Ideal))
          Cert.KernelIdeal.Gen.shapeCasts_S8192_S8x1024 := rfl
  unfold start
  rw [hx, hi, he, ht]
  rfl

/-- The weight of key position `k`. -/
def wgt (a3 a4 a5 : FVec Ideal Cert.ReferenceIdeal.S_ .f32) (k : Fin 8192) : EReal :=
  Ideal.exp (et a3 a4 (ix1 k) * a5 i0) + Ideal.ofBits .f32 0x322BCC77#32

/-- What the first kernel leaves, flattened to one row, is the weight of each key position. -/
theorem weight_row (a3 a4 a5 : FVec Ideal Cert.ReferenceIdeal.S_ .f32) (k : Fin 8192) :
    shapeCast Cert.KernelIdeal.S1x8192 (weight (F := Ideal) (shapeCast Cert.KernelIdeal.S8x1024 (Cert.ReferenceIdeal.Step.K_main_v0 (F := Ideal))
      Cert.KernelIdeal.Gen.shapeCasts_S8192_S8x1024) (a3 i0) (a4 i0) (a5 i0))
      Cert.KernelIdeal.Gen.shapeCasts_S8x1024_S1x8192 (ix2 0 k) = wgt a3 a4 a5 k := by
  unfold weight
  rw [start_lay a3 a4, show run (a3 i0) (a4 i0) times (lay (ini a3 a4)) = lay (iter (ini a3 a4) 64) from run_all_lay (ini a3 a4)]
  have h : (lay (iter (ini a3 a4) 64)).et = shapeCast Cert.KernelIdeal.S8x1024 (et a3 a4) Cert.KernelIdeal.Gen.shapeCasts_S8192_S8x1024 := rfl
  rw [h]
  unfold wgt
  generalize et a3 a4 = e
  pointwise

/-- The pattern the weights add is a positive real number. -/
theorem eps_pos : ∃ r : ℝ, 0 < r ∧ Ideal.ofBits .f32 0x322BCC77#32 = (r : EReal) := by
  refine ⟨(2 ^ 23 + 2870391 : ℕ) * (2 : ℝ) ^ (-50 : ℤ), by positivity, ?_⟩
  simp [Ideal.ofBits, Ideal.ieee, -EReal.coe_mul]

/-- Where the scale is not `+∞`, every weight is a positive real number. -/
theorem wgt_pos (a3 a4 a5 : FVec Ideal Cert.ReferenceIdeal.S_ .f32) (h : a5 i0 < ⊤) (k : Fin 8192) :
    ∃ r : ℝ, 0 < r ∧ wgt a3 a4 a5 k = (r : EReal) := by
  obtain ⟨t, ht, het⟩ := et_nonneg a3 a4 (ix1 k)
  obtain ⟨e, he, hee⟩ := eps_pos
  unfold wgt
  rw [het, hee]
  have hx : ∃ r : ℝ, 0 ≤ r ∧ Ideal.exp ((t : EReal) * a5 i0) = (r : EReal) := by
    revert h
    generalize a5 i0 = s
    intro h
    induction s using EReal.rec with
    | bot =>
      rcases eq_or_lt_of_le ht with rfl | hp
      · exact ⟨1, zero_le_one, by rw [EReal.coe_zero, zero_mul, ← EReal.coe_zero, Ideal.exp_coe, Real.exp_zero]⟩
      · exact ⟨0, le_refl _, by rw [EReal.coe_mul_bot_of_pos hp, Ideal.exp_bot, EReal.coe_zero]⟩
    | coe s => exact ⟨Real.exp (t * s), (Real.exp_pos _).le, by rw [← EReal.coe_mul, Ideal.exp_coe]⟩
    | top => exact absurd h (lt_irrefl _)
  obtain ⟨x, hx0, hxe⟩ := hx
  exact ⟨x + e, by linarith, by rw [hxe, EReal.coe_add]⟩

end Cert.Value

end
-- ==== Proof.HostValue.lean ====
/-
  What the host computes around the two kernels, and what the first kernel leaves.
-/
module

public import proofs.«01_k».proof.Proof.Run
public import proofs.«01_k».proof.Proof.Julia
public import Idealize.ShloMosaic.Lib.Pipeline.ValueKit
public import Idealize.ShloMosaic.Lib.Claim

@[expose] public section

set_option maxRecDepth 16384

noncomputable section

namespace Cert.Value

open Idealize.ShloMosaic Idealize.ShloMosaic.TcCoe
open Cert.KernelIdeal Cert.KernelIdeal.Gen Cert.KernelIdeal.Hand

variable (m : (ℓ : Loc nD τ sig) → Buf (Elt Ideal) ℓ) (ρ : Dev nD → PrngReg) (c : Dev nD)

/-- The host's evenly spaced points are the reference's. -/
theorem v0_val : (show Vec Ideal S8192 .f32 from W2 m ρ c (Proc.devRef .tc main_v0))
    = Cert.ReferenceIdeal.Step.K_main_v0 (F := Ideal) := by
  show StableHlo.after hostOps0_1 (W1 m ρ c) (Proc.devRef .tc main_v0) = _
  entry_read
  rfl

/-- The points, laid out in rows. -/
theorem v1_val : (show Vec Ideal S8x1024 .f32 from W3 m ρ c (Proc.devRef .tc main_v1))
    = shapeCast S8x1024 (Cert.ReferenceIdeal.Step.K_main_v0 (F := Ideal)) shapeCasts_S8192_S8x1024 := by
  rw [← v0_val m ρ c]
  show StableHlo.after hostOps0_2 (W2 m ρ c) (Proc.devRef .tc main_v1) = _
  generalize W2 m ρ c = σ
  entry_read
  rfl

/-- The three scalars, each as a vector of one entry. -/
theorem v2_val : (show Vec Ideal S1 .f32 from W3 m ρ c (Proc.devRef .tc main_v2))
    = shapeCast S1 (show Vec Ideal S_ .f32 from m ((c : Thread nD τ).loc main_arg3)) shapeCasts_S_S1 := by
  show StableHlo.after hostOps0_2 (W2 m ρ c) (Proc.devRef .tc main_v2) = _
  entry_read
  rfl
/-- The second scalar. -/
theorem v3_val : (show Vec Ideal S1 .f32 from W3 m ρ c (Proc.devRef .tc main_v3))
    = shapeCast S1 (show Vec Ideal S_ .f32 from m ((c : Thread nD τ).loc main_arg4)) shapeCasts_S_S1 := by
  show StableHlo.after hostOps0_2 (W2 m ρ c) (Proc.devRef .tc main_v3) = _
  entry_read
  rfl
/-- The third scalar. -/
theorem v4_val : (show Vec Ideal S1 .f32 from W3 m ρ c (Proc.devRef .tc main_v4))
    = shapeCast S1 (show Vec Ideal S_ .f32 from m ((c : Thread nD τ).loc main_arg5)) shapeCasts_S_S1 := by
  show StableHlo.after hostOps0_2 (W2 m ρ c) (Proc.devRef .tc main_v4) = _
  entry_read
  rfl

/-- The first kernel's windows are their whole arrays. -/
theorem idx0 : ∀ t : Fin cfg0.N, win0_0.index t = ![0] ∧ win0_1.index t = ![0] ∧ win0_2.index t = ![0]
    ∧ win0_3.index t = ![0, 0] ∧ win0_4.index t = ![0, 0] :=
  (by decide +kernel : ∀ t : Fin grid0.N, _)

/-- What the first kernel leaves in its output array. -/
theorem v5_val : (show Vec Ideal S8x1024 .f32 from W4 m ρ c (Proc.devRef .tc main_v5))
    = out0 (show Vec Ideal S1 .f32 from W3 m ρ c (Proc.devRef .tc main_v2)) (show Vec Ideal S1 .f32 from W3 m ρ c (Proc.devRef .tc main_v3))
        (show Vec Ideal S1 .f32 from W3 m ρ c (Proc.devRef .tc main_v4)) (show Vec Ideal S8x1024 .f32 from W3 m ρ c (Proc.devRef .tc main_v1)) := by
  refine (W4_arr m ρ c 4).trans ?_
  refine (dat0 (C3 m ρ) c).arrAt_eq_of_after_last 4 t0_0 (by decide +kernel) _ fun j => ?_
  blk_simp
  rw [dat0_after4]
  have h0 : (show Vec Ideal S1 .f32 from blk0 (C3 m ρ) c 0 t0_0) = (show Vec Ideal S1 .f32 from W3 m ρ c (Proc.devRef .tc main_v2)) := by
    blk_ext! [blk0, idx0 t0_0]
  have h1 : (show Vec Ideal S1 .f32 from blk0 (C3 m ρ) c 1 t0_0) = (show Vec Ideal S1 .f32 from W3 m ρ c (Proc.devRef .tc main_v3)) := by
    blk_ext! [blk0, idx0 t0_0]
  have h2 : (show Vec Ideal S1 .f32 from blk0 (C3 m ρ) c 2 t0_0) = (show Vec Ideal S1 .f32 from W3 m ρ c (Proc.devRef .tc main_v4)) := by
    blk_ext! [blk0, idx0 t0_0]
  have h3 : (show Vec Ideal S8x1024 .f32 from blk0 (C3 m ρ) c 3 t0_0) = (show Vec Ideal S8x1024 .f32 from W3 m ρ c (Proc.devRef .tc main_v1)) := by
    blk_ext! [blk0, idx0 t0_0]
  exact congrFun (congr (congr (congr (congrArg out0 h0) h1) h2) h3) j

/-- The weights as one row. -/
theorem v6_val : (show Vec Ideal S1x8192 .f32 from W5 m ρ c (Proc.devRef .tc main_v6))
    = shapeCast S1x8192 (show Vec Ideal S8x1024 .f32 from W4 m ρ c (Proc.devRef .tc main_v5)) shapeCasts_S8x1024_S1x8192 := by
  show StableHlo.after hostOps1 (W4 m ρ c) (Proc.devRef .tc main_v6) = _
  generalize W4 m ρ c = σ
  entry_read
  rfl

/-- The transposed values with a row of ones below. -/
theorem v9_val : (show Vec Ideal S4x65x8192 .f32 from W5 m ρ c (Proc.devRef .tc main_v9))
    = concatenate S4x65x8192 1 [⟨S4x64x8192, transpose S4x64x8192 [0, 2, 1]
        (show Vec Ideal S4x8192x64 .f32 from m ((c : Thread nD τ).loc main_arg2)) transposes_S4x8192x64_S4x64x8192_0_2_1⟩,
      ⟨S4x1x8192, broadcastInDim S4x1x8192 ![] bcast_S_S4x1x8192 (constant (F := Ideal) S_ .f32 0x3F800000#32)⟩]
      concatenates_S4x64x8192_S4x1x8192_S4x65x8192_d1 := by
  rw [← W4_args m ρ c main_arg2 (by decide)]
  show StableHlo.after hostOps1 (W4 m ρ c) (Proc.devRef .tc main_v9) = _
  generalize W4 m ρ c = σ
  entry_read
  rfl

/-- The result is the second kernel's array, transposed. -/
theorem v11_val : (show Vec Ideal S4x8192x64 .f32 from W7 m ρ c (Proc.devRef .tc main_v11))
    = transpose S4x8192x64 [0, 2, 1] (show Vec Ideal S4x64x8192 .f32 from W6 m ρ c (Proc.devRef .tc main_v10)) transposes_S4x64x8192_S4x8192x64_0_2_1 := by
  show StableHlo.after hostOps2 (W6 m ρ c) (Proc.devRef .tc main_v11) = _
  generalize W6 m ρ c = σ
  entry_read
  rfl

end Cert.Value

end
-- ==== Proof.Softmax.lean ====
/-
  The mathematics of the streamed, weighted softmax on extended reals.

  Scores and weights are real numbers, the weights positive; the values summed are any extended
  reals. `part u s M n` is the sum over the first `n` keys of `u j · exp (s j − M)`. The stream
  carries such a sum for a real `M` and rescales it whenever `M` changes; the reference normalises
  the exponentials of scores with the weights' logarithms added.
-/
module

public import Idealize.ShloMosaic.Lib.Pointwise

@[expose] public section

noncomputable section

namespace Cert.Value

open Idealize.ShloMosaic

/-- A real factor that is not negative goes into a sum of extended reals. -/
theorem sum_mul_coe {ι : Type} (t : Finset ι) (x : ι → EReal) (c : ℝ) (hc : 0 ≤ c) :
    (∑ i ∈ t, x i) * (c : EReal) = ∑ i ∈ t, x i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top _) _ _

/-- A sum of real numbers, read as extended reals. -/
theorem coe_sum {ι : Type} (t : Finset ι) (x : ι → ℝ) : ((∑ i ∈ t, x i : ℝ) : EReal) = ∑ i ∈ t, (x i : EReal) := by
  classical
  induction t using Finset.induction_on with
  | empty => simp
  | insert a t ha ih => rw [Finset.sum_insert ha, Finset.sum_insert ha, EReal.coe_add, ih]

/-- The sum over the first `n` keys, at the reference score `M`. -/
def part (u : ℕ → EReal) (s : ℕ → ℝ) (M : ℝ) (n : ℕ) : EReal :=
  ∑ j ∈ Finset.range n, u j * ((Real.exp (s j - M) : ℝ) : EReal)

/-- Rescaling moves the sum to another reference score. -/
theorem part_rescale (u : ℕ → EReal) (s : ℕ → ℝ) (M M' : ℝ) (n : ℕ) :
    part u s M n * ((Real.exp (M - M') : ℝ) : EReal) = part u s M' n := by
  unfold part
  rw [sum_mul_coe _ _ _ (Real.exp_pos _).le]
  refine Finset.sum_congr rfl fun j _ => ?_
  rw [mul_assoc, ← EReal.coe_mul, ← Real.exp_add]
  congr 3
  ring

/-- One block of keys more: rescale, then add the block's sum. -/
theorem part_step (u : ℕ → EReal) (s : ℕ → ℝ) (M M' : ℝ) (n b : ℕ) :
    part u s M n * ((Real.exp (M - M') : ℝ) : EReal)
      + ∑ j : Fin b, u (n + j.val) * ((Real.exp (s (n + j.val) - M') : ℝ) : EReal) = part u s M' (n + b) := by
  rw [part_rescale]
  unfold part
  rw [Finset.sum_range_add, Finset.sum_range (fun x => u (n + x) * ((Real.exp (s (n + x) - M') : ℝ) : EReal))]

/-- The largest of real numbers and a start that is real is a real number. -/
theorem fold_max_coe {n : ℕ} (x : Fin n → ℝ) (m : ℝ) (f : Fin n → EReal) (hf : ∀ i, f i = (x i : EReal)) :
    ∃ r : ℝ, max (m : EReal) (Finset.univ.fold max (⊥ : EReal) f) = (r : EReal) := by
  classical
  have : ∀ t : Finset (Fin n), ∃ r : ℝ, max (m : EReal) (t.fold max (⊥ : EReal) f) = (r : EReal) := by
    intro t
    induction t using Finset.induction_on with
    | empty => exact ⟨m, by simp⟩
    | insert a t ha ih =>
      obtain ⟨r, hr⟩ := ih
      refine ⟨max (x a) r, ?_⟩
      rw [Finset.fold_insert ha, max_left_comm, hr, hf]
      exact (EReal.coe_strictMono.monotone.map_max).symm
  exact this _

/-- The largest of one or more real numbers is a real number. -/
theorem fold_max_pos {n : ℕ} (hn : 0 < n) (x : Fin n → ℝ) (f : Fin n → EReal) (hf : ∀ i, f i = (x i : EReal)) :
    ∃ r : ℝ, Finset.univ.fold max (⊥ : EReal) f = (r : EReal) := by
  classical
  obtain ⟨r, hr⟩ := fold_max_coe x (x ⟨0, hn⟩) f hf
  refine ⟨r, ?_⟩
  rw [← hr]
  refine (max_eq_right ?_).symm
  rw [← hf]
  exact (Finset.le_fold_max _).mpr (Or.inr ⟨_, Finset.mem_univ _, le_refl _⟩)

/-- The share of key `j` among the first `n`: its weighted exponential over the sum of all. -/
def share (w s : ℕ → ℝ) (n j : ℕ) : ℝ := w j * Real.exp (s j) / ∑ i ∈ Finset.range n, w i * Real.exp (s i)

/-- The sum of the weighted exponentials is positive. -/
theorem den_pos (w s : ℕ → ℝ) (n : ℕ) (hn : 0 < n) (hw : ∀ j < n, 0 < w j) :
    0 < ∑ i ∈ Finset.range n, w i * Real.exp (s i) :=
  Finset.sum_pos (fun j hj => mul_pos (hw j (Finset.mem_range.mp hj)) (Real.exp_pos _)) ⟨0, Finset.mem_range.mpr hn⟩

/-- Shares do not change when all scores are lowered by one number. -/
theorem share_shift (w s : ℕ → ℝ) (M : ℝ) (n j : ℕ) (hn : 0 < n) (hw : ∀ j < n, 0 < w j) :
    w j * Real.exp (s j - M) / ∑ i ∈ Finset.range n, w i * Real.exp (s i - M) = share w s n j := by
  have hd : ∑ i ∈ Finset.range n, w i * Real.exp (s i - M) = (∑ i ∈ Finset.range n, w i * Real.exp (s i)) * Real.exp (-M) := by
    rw [Finset.sum_mul]
    refine Finset.sum_congr rfl fun i _ => ?_
    rw [sub_eq_add_neg, Real.exp_add, mul_assoc]
  rw [hd, sub_eq_add_neg, Real.exp_add, ← mul_assoc, mul_div_mul_right _ _ (Real.exp_pos _).ne']
  rfl

/-- The kernel's quotient: the streamed sum of values, times one over the streamed sum of weights, is the sum of the
    values by their shares. -/
theorem stream_out (v : ℕ → EReal) (w s : ℕ → ℝ) (M : ℝ) (n : ℕ) (hn : 0 < n) (hw : ∀ j < n, 0 < w j) :
    part (fun j => v j * (w j : EReal)) s M n * Ideal.div 1 (part (fun j => 1 * (w j : EReal)) s M n)
      = ∑ j ∈ Finset.range n, v j * ((share w s n j : ℝ) : EReal) := by
  have hden : part (fun j => 1 * (w j : EReal)) s M n = ((∑ i ∈ Finset.range n, w i * Real.exp (s i - M) : ℝ) : EReal) := by
    unfold part
    rw [coe_sum]
    refine Finset.sum_congr rfl fun j _ => ?_
    show 1 * (w j : EReal) * _ = _
    rw [one_mul, EReal.coe_mul]
  have hp := den_pos w (fun i => s i - M) n hn hw
  rw [hden, Ideal.div_coe hp.ne', one_mul]
  unfold part
  rw [sum_mul_coe _ _ _ (by positivity)]
  refine Finset.sum_congr rfl fun j _ => ?_
  rw [mul_assoc, mul_assoc, ← EReal.coe_mul, ← EReal.coe_mul, ← share_shift w s M n j hn hw]
  congr 2
  ring

/-- The reference's exponential of a score with the weight's logarithm added, lowered by `M`. -/
theorem exp_log (w s M : ℝ) (hw : 0 < w) :
    Ideal.exp ((s : EReal) + Ideal.log (w : EReal) - (M : EReal)) = ((w * Real.exp (s - M) : ℝ) : EReal) := by
  rw [Ideal.log_coe, if_neg (not_le.mpr hw), ← EReal.coe_add, ← EReal.coe_sub, Ideal.exp_coe]
  congr 1
  rw [show s + Real.log w - M = Real.log w + (s - M) by ring, Real.exp_add, Real.exp_log hw]

/-- The reference's quotient: the normalised exponentials against the values is the same sum by shares. -/
theorem normal_out {n : ℕ} (v : ℕ → EReal) (w s : ℕ → ℝ) (M : ℝ) (hn : 0 < n) (hw : ∀ j < n, 0 < w j) :
    ∑ j : Fin n, Ideal.div ((w j * Real.exp (s j - M) : ℝ) : EReal)
        (∑ i : Fin n, ((w i * Real.exp (s i - M) : ℝ) : EReal)) * v j
      = ∑ j ∈ Finset.range n, v j * ((share w s n j : ℝ) : EReal) := by
  have hden : ∑ i : Fin n, ((w i * Real.exp (s i - M) : ℝ) : EReal)
      = ((∑ i ∈ Finset.range n, w i * Real.exp (s i - M) : ℝ) : EReal) := by
    rw [coe_sum, Finset.sum_range (fun i => ((w i * Real.exp (s i - M) : ℝ) : EReal))]
  have hp := den_pos w (fun i => s i - M) n hn hw
  rw [Finset.sum_range (fun j => v j * ((share w s n j : ℝ) : EReal)), hden]
  refine Finset.sum_congr rfl fun j _ => ?_
  rw [Ideal.div_coe hp.ne', ← EReal.coe_mul, mul_comm, ← share_shift w s M n j hn hw]
  congr 2
  ring

end Cert.Value

end
-- ==== Proof.FlashBlock.lean ====
/-
  The second kernel's payloads, read at an index at the ideal reading.
-/
module

public import proofs.«01_k».proof.Proof.Region1
public import proofs.«01_k».proof.Proof.Softmax
public import Idealize.ShloMosaic.Lib.Pipeline.ValueKit

@[expose] public section

set_option maxRecDepth 16384

noncomputable section

namespace Cert.Value

open Idealize.ShloMosaic Idealize.ShloMosaic.TcCoe
open Cert.KernelIdeal Cert.KernelIdeal.Gen Cert.KernelIdeal.Hand

/-- The pattern of `-∞`. -/
theorem ofBits_ninf : Ideal.ofBits .f32 0xFF800000#32 = ⊥ := by
  simp [Ideal.ofBits, Ideal.ieee]

/-- The pattern of one eighth. -/
theorem ofBits_eighth : Ideal.ofBits .f32 0x3E000000#32 = ((1 / 8 : ℝ) : EReal) := by
  simp [Ideal.ofBits, Ideal.ieee, -EReal.coe_mul]; norm_num

/-- The running maximum starts at a real number. -/
theorem ofBits_start : ∃ r : ℝ, Ideal.ofBits .f32 0xF149F2CA#32 = (r : EReal) := by
  simp [Ideal.ofBits, Ideal.ieee, -EReal.coe_mul, -EReal.coe_neg]

/-- A block's score at key `j` and query `i`. -/
theorem pay5_at (x0 : Vec Ideal S1x1024x64 .f32) (x1 : Vec Ideal S1x512x64 .f32) (j : Fin 512) (i : Fin 1024) :
    k1_pay5 x0 x1 (ix2 j i) = ∑ d : Fin 64, x1 (ix3 0 j d) * (x0 (ix3 0 i d) * ((1 / 8 : ℝ) : EReal)) := by
  rw [← ofBits_eighth]
  pointwise [k1_pay5]

/-- The running maximum after a block. -/
theorem pay6_at (x0 : Vec Ideal S1x1024x64 .f32) (x1 : Vec Ideal S1x512x64 .f32) (m : Vec Ideal S1x1024 .f32) (i : Fin 1024) :
    k1_pay6 x0 x1 m (ix2 0 i)
      = max (m (ix2 0 i)) (Finset.univ.fold max (⊥ : EReal) fun j : Fin 512 => k1_pay5 x0 x1 (ix2 j i)) := by
  rw [← ofBits_ninf]
  pointwise [k1_pay6]

/-- The maximum is stored as it is. -/
theorem pay1_at (x : FVec Ideal S1x1024 .f32) : k1_pay1 x = x := by
  funext i
  pointwise [k1_pay1]

/-- The running sums after a block. -/
theorem pay7_at (x0 : Vec Ideal S1x1024x64 .f32) (x1 : Vec Ideal S1x512x64 .f32) (m : Vec Ideal S1x1024 .f32)
    (x2 : Vec Ideal S1x65x512 .f32) (x3 : Vec Ideal S1x512 .f32) (acc : Vec Ideal S65x1024 .f32) (f : Fin 65) (i : Fin 1024) :
    k1_pay7 x0 x1 m x2 x3 acc (ix2 f i)
      = acc (ix2 f i) * Ideal.exp (m (ix2 0 i) - k1_pay6 x0 x1 m (ix2 0 i))
        + ∑ j : Fin 512, x2 (ix3 0 f j) * x3 (ix2 0 j)
            * Ideal.exp (k1_pay5 x0 x1 (ix2 j i) - k1_pay6 x0 x1 m (ix2 0 i)) := by
  pointwise [k1_pay7]

/-- What the last point of a row block stores. -/
theorem pay2_at (acc : Vec Ideal S65x1024 .f32) (f : Fin 64) (i : Fin 1024) :
    k1_pay2 acc (ix3 0 f i) = acc (ix2 ⟨f.val, by omega⟩ i) * Ideal.div 1 (acc (ix2 64 i)) := by
  pointwise [k1_pay2]

/-- The sums start at zero. -/
theorem pay4_at (f : Fin 65) (i : Fin 1024) : k1_pay4 (F := Ideal) (ix2 f i) = 0 := by
  pointwise [k1_pay4]

/-- The maximum starts at a real number. -/
theorem pay3_at (i : Fin 1024) : ∃ r : ℝ, k1_pay3 (F := Ideal) (ix2 0 i) = (r : EReal) := by
  obtain ⟨r, hr⟩ := ofBits_start
  refine ⟨r, ?_⟩
  rw [← hr]
  pointwise [k1_pay3]

variable (V : (c : Dev nD) → (b : Ref sig .tc) → Buf (Elt Ideal) ((c : Thread nD τ).loc b))

/-- Every window's block index at every point. -/
theorem idx1 : ∀ t : Fin cfg1.N, win1_0.index t = ![t.val / 128 % 4, t.val / 16 % 8, 0]
    ∧ win1_1.index t = ![t.val / 128 % 4, t.val % 16, 0] ∧ win1_2.index t = ![t.val / 128 % 4, 0, t.val % 16]
    ∧ win1_3.index t = ![0, t.val % 16] ∧ win1_4.index t = ![t.val / 128 % 4, 0, t.val / 16 % 8] :=
  (by decide +kernel : ∀ t : Fin grid1.N, _)

/-- The block of queries at a point. -/
theorem blkq_at (c : Dev nD) (t : Fin cfg1.N) (i : Fin 1024) (d : Fin 64) :
    (show Vec Ideal S1x1024x64 .f32 from blk1 V c 0 t) (ix3 0 i d)
      = (show Vec Ideal S4x8192x64 .f32 from V c main_arg0) (ix3 ⟨t.val / 128 % 4, by omega⟩ ⟨t.val / 16 % 8 * 1024 + i.val, by omega⟩ d) := by
  blk_ext [blk1, idx1 t]

/-- The block of keys at a point. -/
theorem blkk_at (c : Dev nD) (t : Fin cfg1.N) (j : Fin 512) (d : Fin 64) :
    (show Vec Ideal S1x512x64 .f32 from blk1 V c 1 t) (ix3 0 j d)
      = (show Vec Ideal S4x8192x64 .f32 from V c main_arg1) (ix3 ⟨t.val / 128 % 4, by omega⟩ ⟨t.val % 16 * 512 + j.val, by omega⟩ d) := by
  blk_ext [blk1, idx1 t]

/-- The block of values at a point. -/
theorem blkv_at (c : Dev nD) (t : Fin cfg1.N) (f : Fin 65) (j : Fin 512) :
    (show Vec Ideal S1x65x512 .f32 from blk1 V c 2 t) (ix3 0 f j)
      = (show Vec Ideal S4x65x8192 .f32 from V c main_v9) (ix3 ⟨t.val / 128 % 4, by omega⟩ f ⟨t.val % 16 * 512 + j.val, by omega⟩) := by
  blk_ext [blk1, idx1 t]

/-- The block of weights at a point. -/
theorem blkw_at (c : Dev nD) (t : Fin cfg1.N) (j : Fin 512) :
    (show Vec Ideal S1x512 .f32 from blk1 V c 3 t) (ix2 0 j)
      = (show Vec Ideal S1x8192 .f32 from V c main_v6) (ix2 0 ⟨t.val % 16 * 512 + j.val, by omega⟩) := by
  blk_ext [blk1, idx1 t]

end Cert.Value

end
-- ==== Proof.FlashValue.lean ====
/-
  What the second kernel's running sums hold, point by point, and what it writes back.

  The queries, keys and weights are read as functions of natural numbers into the real numbers, the
  values into the extended reals. After a point of the grid the running maximum is some real `M` and
  the running sums are the partial sums over the keys of the blocks so far, at the reference score
  `M`; at the last block of a row block the quotient is the sum of the values by their shares.
-/
module

public import proofs.«01_k».proof.Proof.FlashBlock

@[expose] public section

set_option maxRecDepth 16384

noncomputable section

namespace Cert.Value

open Idealize.ShloMosaic Idealize.ShloMosaic.TcCoe
open Cert.KernelIdeal Cert.KernelIdeal.Gen Cert.KernelIdeal.Hand

/-- The score of query `r` and key `j` in batch `b`. -/
def score (q k : ℕ → ℕ → ℕ → ℝ) (b r j : ℕ) : ℝ := ∑ d : Fin 64, k b j d * (q b r d * (1 / 8))

/-- What the second kernel finds in its input arrays: real queries, keys and weights, and the values. -/
structure Found (V : (c : Dev nD) → (b : Ref sig .tc) → Buf (Elt Ideal) ((c : Thread nD τ).loc b)) (c : Dev nD)
    (q k : ℕ → ℕ → ℕ → ℝ) (v : ℕ → ℕ → ℕ → EReal) (w : ℕ → ℝ) : Prop where
  /-- the queries -/
  hq : ∀ (b : Fin 4) (r : Fin 8192) (d : Fin 64),
    (show Vec Ideal S4x8192x64 .f32 from V c main_arg0) (ix3 b r d) = ((q b r d : ℝ) : EReal)
  /-- the keys -/
  hk : ∀ (b : Fin 4) (r : Fin 8192) (d : Fin 64),
    (show Vec Ideal S4x8192x64 .f32 from V c main_arg1) (ix3 b r d) = ((k b r d : ℝ) : EReal)
  /-- the values with the row of ones -/
  hv : ∀ (b : Fin 4) (f : Fin 65) (j : Fin 8192),
    (show Vec Ideal S4x65x8192 .f32 from V c main_v9) (ix3 b f j) = v b f j
  /-- the weights -/
  hw : ∀ j : Fin 8192, (show Vec Ideal S1x8192 .f32 from V c main_v6) (ix2 0 j) = ((w j : ℝ) : EReal)

variable {V : (c : Dev nD) → (b : Ref sig .tc) → Buf (Elt Ideal) ((c : Thread nD τ).loc b)} {c : Dev nD}
  {q k : ℕ → ℕ → ℕ → ℝ} {v : ℕ → ℕ → ℕ → EReal} {w : ℕ → ℝ}

/-- A point's block of scores. -/
theorem pay5_blk (H : Found V c q k v w) (t : Fin cfg1.N) (j : Fin 512) (i : Fin 1024) :
    k1_pay5 (F := Ideal) (blk1 V c 0 t) (blk1 V c 1 t) (ix2 j i)
      = ((score q k (t.val / 128 % 4) (t.val / 16 % 8 * 1024 + i.val) (t.val % 16 * 512 + j.val) : ℝ) : EReal) := by
  refine (pay5_at _ _ j i).trans ?_
  unfold score
  rw [coe_sum]
  refine Finset.sum_congr rfl fun d _ => ?_
  rw [EReal.coe_mul, EReal.coe_mul]
  exact congrArg₂ (· * ·) ((blkk_at V c t j d).trans (H.hk _ _ _))
    (congrArg (· * ((1 / 8 : ℝ) : EReal)) ((blkq_at V c t i d).trans (H.hq _ _ _)))

/-- One point's step: from partial sums over the blocks before to partial sums over one block more. -/
theorem next_at (H : Found V c q k v w) (t : Fin cfg1.N) (p : Pair Ideal) (i : Fin 1024) (M : ℝ)
    (hm : p.2 (ix2 0 i) = (M : EReal))
    (ha : ∀ f : Fin 65, p.1 (ix2 f i) = part (fun j => v (t.val / 128 % 4) f j * (w j : EReal))
      (score q k (t.val / 128 % 4) (t.val / 16 % 8 * 1024 + i.val)) M (t.val % 16 * 512)) :
    ∃ M' : ℝ, (next1 V c t p).2 (ix2 0 i) = (M' : EReal)
      ∧ ∀ f : Fin 65, (next1 V c t p).1 (ix2 f i) = part (fun j => v (t.val / 128 % 4) f j * (w j : EReal))
          (score q k (t.val / 128 % 4) (t.val / 16 % 8 * 1024 + i.val)) M' (t.val % 16 * 512 + 512) := by
  have h6 := pay6_at (blk1 V c 0 t) (blk1 V c 1 t) p.2 i
  rw [hm] at h6
  obtain ⟨M', hM'⟩ := fold_max_coe _ M _ (pay5_blk H t · i)
  rw [hM'] at h6
  refine ⟨M', ?_, fun f => ?_⟩
  · show k1_pay1 (k1_pay6 (blk1 V c 0 t) (blk1 V c 1 t) p.2) (ix2 0 i) = _
    rw [pay1_at]
    exact h6
  · refine (pay7_at (blk1 V c 0 t) (blk1 V c 1 t) p.2 (blk1 V c 2 t) (blk1 V c 3 t) p.1 f i).trans ?_
    rw [h6, hm, ha f, ← EReal.coe_sub, Ideal.exp_coe, ← part_step]
    refine congrArg _ (Finset.sum_congr rfl fun j _ => ?_)
    rw [pay5_blk H t j i, ← EReal.coe_sub, Ideal.exp_coe]
    exact congrArg (· * _) (congrArg₂ (· * ·) ((blkv_at V c t f j).trans (H.hv _ _ _)) ((blkw_at V c t j).trans (H.hw _)))

/-- What the pair holds after every point. -/
theorem pair_at (H : Found V c q k v w) (i : Fin 1024) : ∀ (n : ℕ) (hn : n < cfg1.N),
    ∃ M : ℝ, (pair1 V c n hn).2 (ix2 0 i) = (M : EReal)
      ∧ ∀ f : Fin 65, (pair1 V c n hn).1 (ix2 f i) = part (fun j => v (n / 128 % 4) f j * (w j : EReal))
          (score q k (n / 128 % 4) (n / 16 % 8 * 1024 + i.val)) M (n % 16 * 512 + 512) := by
  intro n
  induction n with
  | zero =>
    intro hn
    obtain ⟨M, hM⟩ := pay3_at i
    exact next_at H ⟨0, hn⟩ fresh i M hM fun f => (pay4_at f i).trans (by unfold part; simp)
  | succ n ih =>
    intro hn
    by_cases h0 : (n + 1) % 16 = 0
    · obtain ⟨M, hM⟩ := pay3_at i
      rw [pair1_first V c ⟨n + 1, hn⟩ h0]
      exact next_at H ⟨n + 1, hn⟩ fresh i M hM fun f => (pay4_at f i).trans (by
        unfold part
        rw [show (⟨n + 1, hn⟩ : Fin cfg1.N).val % 16 = 0 from h0]
        simp)
    · obtain ⟨M, hM, hA⟩ := ih (Nat.lt_of_succ_lt hn)
      rw [pair1_next V c ⟨n + 1, hn⟩ h0]
      refine next_at H ⟨n + 1, hn⟩ _ i M hM fun f => (hA f).trans ?_
      show part _ _ M _ = part _ _ M ((n + 1) % 16 * 512)
      rw [show (n + 1) / 128 % 4 = n / 128 % 4 by omega, show (n + 1) / 16 % 8 = n / 16 % 8 by omega,
        show (n + 1) % 16 * 512 = n % 16 * 512 + 512 by omega]

/-- The attention output: the values of batch `b` and feature `f` by their shares at query `r`. -/
def attn (q k : ℕ → ℕ → ℕ → ℝ) (v : ℕ → ℕ → ℕ → EReal) (w : ℕ → ℝ) (b r f : ℕ) : EReal :=
  ∑ j ∈ Finset.range 8192, v b f j * ((share w (score q k b r) 8192 j : ℝ) : EReal)

/-- What the last point of a row block stores. -/
theorem stored_at (H : Found V c q k v w) (hone : ∀ b j, v b 64 j = 1) (hw : ∀ j < 8192, 0 < w j) (t : Fin cfg1.N)
    (ht : t.val % 16 = 15) (f : Fin 64) (i : Fin 1024) :
    k1_pay2 (pair1 V c t.val t.isLt).1 (ix3 0 f i)
      = attn q k v w (t.val / 128 % 4) (t.val / 16 % 8 * 1024 + i.val) f := by
  obtain ⟨M, -, hA⟩ := pair_at H i t.val t.isLt
  rw [pay2_at, hA, hA, ht]
  have h1 : (fun j => v (t.val / 128 % 4) (64 : Fin 65).val j * (w j : EReal)) = fun j => 1 * (w j : EReal) :=
    funext fun j => congrArg (· * (w j : EReal)) (hone _ _)
  rw [h1]
  exact stream_out (fun j => v (t.val / 128 % 4) f.val j) w _ M 8192 (by norm_num) hw

/-- The output array at the end of the second kernel. -/
theorem flash_arr (H : Found V c q k v w) (hone : ∀ b j, v b 64 j = 1) (hw : ∀ j < 8192, 0 < w j) :
    (dat1 V c).arrAt 4 cfg1.N = (fun i : S4x64x8192.Idx => attn q k v w (i 0).val (i 2).val (i 1).val) := by
  refine (dat1 V c).arrAt_eq_of_covers 4 _ (by decide +kernel) fun t hf y => ?_
  have ht : t.val % 16 = 15 := (flush1_4 t).mp hf
  blk_simp
  rw [dat1_after4]
  have hi := (idx1 t).2.2.2.2
  have hs : ∀ y : S1x64x1024.Idx, k1_pay2 (pair1 V c t.val t.isLt).1 y = attn q k v w (win1_4.index t 0)
      (win1_4.index t 2 * 1024 + (y 2).val) (win1_4.index t 1 * 64 + (y 1).val) := fun y => by
    have hy : y = ix3 0 (y 1) (y 2) := (eq_ix3 y).trans
      (congrArg (fun a : Fin 1 => (ix3 a (y 1) (y 2) : S1x64x1024.Idx)) (Subsingleton.elim (α := Fin 1) (y 0) 0))
    rw [hi]
    refine (congrArg (k1_pay2 (pair1 V c t.val t.isLt).1) hy).trans ((stored_at H hone hw t ht (y 1) (y 2)).trans ?_)
    show attn q k v w _ _ _ = attn q k v w (t.val / 128 % 4) (t.val / 16 % 8 * 1024 + (y 2).val) (0 * 64 + (y 1).val)
    rw [Nat.zero_mul, Nat.zero_add]
  exact hs y

end Cert.Value

end
-- ==== Proof.RefValue.lean ====
/-
  The reference's result at an index, at the ideal reading.
-/
module

public import proofs.«01_k».proof.Proof.Julia
public import proofs.«01_k».proof.Proof.Softmax

@[expose] public section

set_option maxRecDepth 16384

noncomputable section

namespace Cert.Value

open Idealize.ShloMosaic
open Cert.ReferenceIdeal Cert.ReferenceIdeal.Gen

/-- The biased scores, of the queries, the keys, the escape times and the scale. -/
def logit (Q K : FVec Ideal S4x8192x64 .f32) (e : FVec Ideal S8192 .f32) (a5 : FVec Ideal S_ .f32) : FVec Ideal S4x8192x8192 .f32 :=
  addf (Host.divf (Host.dotGeneral dot_S4x8192x64_S4x8192x64_S4x8192x8192_2_2_1_1_0_0 none Q K)
      (broadcastInDim S4x8192x8192 ![] bcast_S_S4x8192x8192 (constant S_ .f32 0x41000000#32)))
    (broadcastInDim S4x8192x8192 ![0, 1, 2] bcast_S1x1x8192_S4x8192x8192_0_1_2 (broadcastInDim S1x1x8192 ![2] bcast_S8192_S1x1x8192_2
      (Host.log (addf (Host.exp (mulf e (broadcastInDim S8192 ![] bcast_S_S8192 a5)))
        (broadcastInDim S8192 ![] bcast_S_S8192 (constant S_ .f32 0x322BCC77#32))))))

/-- Each row's largest score. -/
def rowmax (L : FVec Ideal S4x8192x8192 .f32) : FVec Ideal S4x8192 .f32 :=
  Host.reduce FloatOps.maximumf L (constant S_ .f32 0xFF800000#32) reducesTo_S4x8192x8192_S4x8192_d2 h_S_

/-- One number per row, but not below `-∞`, in every column. -/
def spread (M : FVec Ideal S4x8192 .f32) : FVec Ideal S4x8192x8192 .f32 :=
  broadcastInDim S4x8192x8192 ![0, 1, 2] bcast_S4x8192x1_S4x8192x8192_0_1_2 (broadcastInDim S4x8192x1 ![0, 1] bcast_S4x8192_S4x8192x1_0_1
    (maximumf (broadcastInDim S4x8192 ![] bcast_S_S4x8192 (constant S_ .f32 0xFF800000#32)) M))

/-- The exponentials of the scores lowered by their row's largest, normalised, against the values. -/
def soft (L : FVec Ideal S4x8192x8192 .f32) (T : FVec Ideal S4x8192x8192 .f32) (v : FVec Ideal S4x8192x64 .f32) : FVec Ideal S4x8192x64 .f32 :=
  Host.dotGeneral dot_S4x8192x8192_S4x8192x64_S4x8192x64_2_1_1_2_0_0 none (Host.divf (Host.exp (subf L T))
    (broadcastInDim S4x8192x8192 ![0, 1, 2] bcast_S4x8192x1_S4x8192x8192_0_1_2 (broadcastInDim S4x8192x1 ![0, 1] bcast_S4x8192_S4x8192x1_0_1
      (Host.reduceAdd (Host.exp (subf L T)) (constant S_ .f32 0x00000000#32) reducesTo_S4x8192x8192_S4x8192_d2 h_S_)))) v

/-- The reference's last operations are these. -/
theorem result_eq (s : RSt) (Q K v : FVec Ideal S4x8192x64 .f32) (a5 : FVec Ideal S_ .f32) :
    Cert.ReferenceIdeal.Step.R_main_v29 s Q K v a5
      = soft (logit Q K s.main_v5_7 a5) (spread (rowmax (logit Q K s.main_v5_7 a5))) v := by
  unfold Cert.ReferenceIdeal.Step.R_main_v29 soft spread rowmax logit
  rfl

/-- The pattern of the number eight. -/
theorem ofBits_eight : Ideal.ofBits .f32 0x41000000#32 = ((8 : ℝ) : EReal) := by
  simp [Ideal.ofBits, Ideal.ieee, -EReal.coe_mul]; norm_num

/-- A biased score. -/
theorem logit_at (Q K : FVec Ideal S4x8192x64 .f32) (e : FVec Ideal S8192 .f32) (a5 : FVec Ideal S_ .f32)
    (b : Fin 4) (r j : Fin 8192) :
    logit Q K e a5 (ix3 b r j) = Ideal.div (∑ d : Fin 64, Q (ix3 b r d) * K (ix3 b j d)) ((8 : ℝ) : EReal)
      + Ideal.log (Ideal.exp (e (ix1 j) * a5 ix0) + Ideal.ofBits .f32 0x322BCC77#32) := by
  rw [← ofBits_eight]
  pointwise [logit]

/-- The host's maximum along the last axis of a box of any extents, at an index. -/
theorem max_last {n0 n1 n2 : ℕ} {u : Shape} (L : (⟨3, ![n0, n1, n2]⟩ : Shape).Idx → EReal) (x : u.Idx → EReal)
    (h : (⟨3, ![n0, n1, n2]⟩ : Shape).ReducesTo [2] ⟨2, ![n0, n1]⟩) (hu : 0 < u.numel) (e : EReal) (he : x (Shape.Idx.first hu) = e) (b : Fin n0) (r : Fin n1) :
    Host.reduce (FloatOps.maximumf (F := Ideal) (φ := .f32)) L x h hu (ix2 b r)
      = Finset.univ.fold (max : EReal → EReal → EReal) e (fun i : Fin n2 => L (ix3 b r i)) := by
  show Host.reduce (max : EReal → EReal → EReal) L x h hu (ix2 b r) = _
  rw [Host.reduce_eq_fold, he]
  exact h.fold_fiber_r3_a2 (ix2 b r) max _ L

/-- A row's largest score, from `-∞`. -/
theorem rowmax_at (L : FVec Ideal S4x8192x8192 .f32) (b : Fin 4) (r : Fin 8192) :
    rowmax L (ix2 b r) = Finset.univ.fold (max : EReal → EReal → EReal) (Ideal.ofBits .f32 0xFF800000#32)
      (fun i : Fin 8192 => (show S4x8192x8192.Idx → EReal from L) (ix3 b r i)) := by
  unfold rowmax
  exact max_last (n0 := 4) (n1 := 8192) (n2 := 8192) L (constant (F := Ideal) S_ .f32 0xFF800000#32)
    reducesTo_S4x8192x8192_S4x8192_d2 h_S_ (Ideal.ofBits .f32 0xFF800000#32) rfl b r

/-- The spread numbers at an index. -/
theorem spread_at (M : FVec Ideal S4x8192 .f32) (b : Fin 4) (r j : Fin 8192) :
    spread M (ix3 b r j) = (max : EReal → EReal → EReal) (Ideal.ofBits .f32 0xFF800000#32) (M (ix2 b r)) := by
  pointwise [spread]

/-- The result at an index. -/
theorem soft_at (L T : FVec Ideal S4x8192x8192 .f32) (v : FVec Ideal S4x8192x64 .f32) (b : Fin 4) (r : Fin 8192) (f : Fin 64) :
    soft L T v (ix3 b r f) = ∑ j : Fin 8192, Ideal.div (Ideal.exp (L (ix3 b r j) - T (ix3 b r j)))
      (∑ i : Fin 8192, Ideal.exp (L (ix3 b r i) - T (ix3 b r i))) * v (ix3 b j f) := by
  pointwise [soft]

end Cert.Value

end
-- ==== Proof.Inputs.lean ====
/-
  What the precondition says of the argument arrays, and the arrays as functions of natural numbers.
-/
module

public import proofs.«01_k».proof.Pre_finite_inputs
public import Idealize.ShloMosaic.Lib.Pointwise
public import Idealize.ShloMosaic.Lib.ReduceAll

@[expose] public section

set_option maxRecDepth 16384

noncomputable section

namespace Cert.Value

open Idealize.ShloMosaic

/-- The precondition's shape facts. -/
theorem pre_facts : Cert.Pre_finite_inputs.Facts where
  bcast_S_S4x8192x64 := by decide
  reducesTo_S4x8192x64_S_d0_1_2 := by decide
  h_S_ := by decide

/-- The pattern of `+∞`. -/
theorem ofBits_inf : Ideal.ofBits .f32 0x7F800000#32 = ⊤ := by
  simp [Ideal.ofBits, Ideal.ieee]

/-- A number whose magnitude is below `+∞` is a real number. -/
theorem real_of_abs {x : EReal} (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  induction x using EReal.rec with
  | bot => exact absurd h (by simp [FloatOps.cmpf, FloatOps.hostAbsf, FloatOps.absf, Ideal.cmp])
  | coe r => exact ⟨r, rfl⟩
  | top => exact absurd h (by simp [FloatOps.cmpf, FloatOps.hostAbsf, FloatOps.absf, Ideal.cmp])

open Cert.Pre_finite_inputs in
/-- The precondition makes every query and every key a real number and keeps the scale below `+∞`. -/
theorem pre_real [Cert.Pre_finite_inputs.Facts] (A0 A1 A2 : FVec Ideal S4x8192x64 .f32) (a3 a4 a5 : FVec Ideal S_ .f32)
    (h : fn A0 A1 A2 a3 a4 a5 = fun _ => 1#1) :
    (∀ i, ∃ r : ℝ, A0 i = (r : EReal)) ∧ (∀ i, ∃ r : ℝ, A1 i = (r : EReal)) ∧ (a5 ix0 : EReal) < ⊤ := by
  haveI : Subsingleton S_.Idx := ⟨fun a b => funext fun k => k.elim0⟩
  have h0 := congrFun h ix0
  unfold fn at h0
  obtain ⟨h1, h2⟩ := IntOp.andi_eq_one.1 h0
  obtain ⟨h3, h4⟩ := IntOp.andi_eq_one.1 h1
  refine ⟨fun i => ?_, fun i => ?_, ?_⟩
  · have h := Host.reduce_andi_all _ _ _ _ _ h3 i
    exact real_of_abs h
  · have h := Host.reduce_andi_all _ _ _ _ _ h4 i
    exact real_of_abs h
  · by_contra hn
    have h : Ideal.cmp .olt (a5 ix0 : EReal) (Ideal.ofBits .f32 0x7F800000#32) = 1#1 := h2
    rw [ofBits_inf] at h
    simp [Ideal.cmp, hn] at h

/-- The shape of the three array arguments. -/
abbrev Sh3 : Shape := ⟨3, ![4, 8192, 64]⟩

/-- An array of reals as a function of three natural numbers, zero outside the array. -/
def reals (A : Sh3.Idx → EReal) (b r d : ℕ) : ℝ :=
  if h : b < 4 ∧ r < 8192 ∧ d < 64 then (A (ix3 ⟨b, h.1⟩ ⟨r, h.2.1⟩ ⟨d, h.2.2⟩)).toReal else 0

/-- Inside the array, `reals` is the entry. -/
theorem reals_at (A : Sh3.Idx → EReal) (hA : ∀ i, ∃ r : ℝ, A i = (r : EReal)) (b : Fin 4) (r : Fin 8192) (d : Fin 64) :
    A (ix3 b r d) = ((reals A b r d : ℝ) : EReal) := by
  obtain ⟨x, hx⟩ := hA (ix3 b r d)
  have e : reals A b r d = (A (ix3 b r d)).toReal := dif_pos ⟨b.2, r.2, d.2⟩
  rw [e, hx, EReal.toReal_coe]

/-- The value array with its column of ones, by batch, feature and position. -/
def vals (A : Sh3.Idx → EReal) (b f j : ℕ) : EReal :=
  if h : b < 4 ∧ j < 8192 ∧ f < 64 then A (ix3 ⟨b, h.1⟩ ⟨j, h.2.1⟩ ⟨f, h.2.2⟩) else 1

/-- Below feature 64, `vals` is the value array's entry. -/
theorem vals_at (A : Sh3.Idx → EReal) (b : Fin 4) (f : Fin 64) (j : Fin 8192) :
    vals A b f j = A (ix3 b j f) := dif_pos ⟨b.2, j.2, f.2⟩

/-- Feature 64 is the ones. -/
theorem vals_one (A : Sh3.Idx → EReal) (b j : ℕ) : vals A b 64 j = 1 := dif_neg (by omega)

end Cert.Value

end
-- ==== Proof.RefAnswer.lean ====
/-
  The reference's result is the sum of the values by their shares.
-/
module

public import proofs.«01_k».proof.Proof.FlashValue
public import proofs.«01_k».proof.Proof.RefValue
public import proofs.«01_k».proof.Proof.Inputs

@[expose] public section

set_option maxRecDepth 16384

noncomputable section

namespace Cert.Value

open Idealize.ShloMosaic
open Cert.ReferenceIdeal Cert.ReferenceIdeal.Gen

/-- The weights as a function of a natural number, one outside the row. -/
def wts (a3 a4 a5 : FVec Ideal S_ .f32) (j : ℕ) : ℝ := if h : j < 8192 then (wgt a3 a4 a5 ⟨j, h⟩).toReal else 1

/-- Inside the row, `wts` is the weight. -/
theorem wts_at (a3 a4 a5 : FVec Ideal S_ .f32) (h : a5 i0 < ⊤) (j : Fin 8192) : wgt a3 a4 a5 j = ((wts a3 a4 a5 j : ℝ) : EReal) := by
  obtain ⟨x, _, hx⟩ := wgt_pos a3 a4 a5 h j
  have e : wts a3 a4 a5 j = (wgt a3 a4 a5 j).toReal := dif_pos j.2
  rw [e, hx, EReal.toReal_coe]

/-- Inside the row the weights are positive. -/
theorem wts_pos (a3 a4 a5 : FVec Ideal S_ .f32) (h : a5 i0 < ⊤) (j : ℕ) (hj : j < 8192) : 0 < wts a3 a4 a5 j := by
  obtain ⟨x, hp, hx⟩ := wgt_pos a3 a4 a5 h ⟨j, hj⟩
  have e : wts a3 a4 a5 j = (wgt a3 a4 a5 ⟨j, hj⟩).toReal := dif_pos hj
  rw [e, hx, EReal.toReal_coe]
  exact hp

/-- What both programs compute, of the six arguments. -/
def answer (A0 A1 A2 : Sh3.Idx → EReal) (a3 a4 a5 : FVec Ideal S_ .f32) : Sh3.Idx → EReal :=
  fun i => attn (reals A0) (reals A1) (vals A2) (wts a3 a4 a5) (i 0).val (i 1).val (i 2).val

/-- The largest of a row of real scores plus logarithms of positive weights is a real number. -/
theorem row_max {n : ℕ} (hn : 0 < n) (w s : ℕ → ℝ) (hw : ∀ j < n, 0 < w j) (L : Fin n → EReal)
    (hL : ∀ j : Fin n, L j = ((s j : ℝ) : EReal) + Ideal.log ((w j : ℝ) : EReal)) (e : EReal) (he : e = ⊥) :
    ∃ M : ℝ, (max : EReal → EReal → EReal) e (Finset.univ.fold (max : EReal → EReal → EReal) e L) = (M : EReal) := by
  subst he
  obtain ⟨M, hM⟩ := fold_max_pos hn (fun j => s j + Real.log (w j)) L fun j => by
    rw [hL, Ideal.log_coe, if_neg (not_le.mpr (hw j j.2)), EReal.coe_add]
  exact ⟨M, by rw [hM]; exact max_eq_right bot_le⟩

/-- A row normalised in the reference's way against the values is the sum of the values by their shares. -/
theorem row_out {n : ℕ} (hn : 0 < n) (w s : ℕ → ℝ) (v : ℕ → EReal) (hw : ∀ j < n, 0 < w j) (L T V : Fin n → EReal) (M : ℝ)
    (hL : ∀ j : Fin n, L j = ((s j : ℝ) : EReal) + Ideal.log ((w j : ℝ) : EReal)) (hT : ∀ j, T j = (M : EReal)) (hV : ∀ j : Fin n, V j = v j) :
    ∑ j, Ideal.div (Ideal.exp (L j - T j)) (∑ i, Ideal.exp (L i - T i)) * V j
      = ∑ j ∈ Finset.range n, v j * ((share w s n j : ℝ) : EReal) := by
  have he : ∀ j : Fin n, Ideal.exp (L j - T j) = ((w j * Real.exp (s j - M) : ℝ) : EReal) := fun j => by
    rw [hL, hT, exp_log _ _ _ (hw j j.2)]
  rw [← normal_out v w s M hn hw]
  simp only [he, hV]

/-- The reference's score is the kernel's. -/
theorem score_eq (A0 A1 : Sh3.Idx → EReal) (h0 : ∀ i, ∃ r : ℝ, A0 i = (r : EReal)) (h1 : ∀ i, ∃ r : ℝ, A1 i = (r : EReal))
    (b : Fin 4) (r j : Fin 8192) :
    Ideal.div (∑ d : Fin 64, A0 (ix3 b r d) * A1 (ix3 b j d)) ((8 : ℝ) : EReal)
      = ((score (reals A0) (reals A1) b r j : ℝ) : EReal) := by
  have e : ∑ d : Fin 64, A0 (ix3 b r d) * A1 (ix3 b j d)
      = ((∑ d : Fin 64, reals A0 b r d * reals A1 b j d : ℝ) : EReal) := by
    rw [coe_sum]
    exact Finset.sum_congr rfl fun d _ => by rw [reals_at A0 h0, reals_at A1 h1, EReal.coe_mul]
  rw [e, Ideal.div_coe (by norm_num), ← EReal.coe_mul]
  congr 1
  unfold score
  rw [Finset.sum_mul]
  exact Finset.sum_congr rfl fun d _ => by ring

/-- The reference's result, of real queries and keys and a scale below `+∞`, is the answer. -/
theorem ref_answer (A0 A1 A2 : FVec Ideal S4x8192x64 .f32) (a3 a4 a5 : FVec Ideal S_ .f32)
    (h0 : ∀ i, ∃ r : ℝ, A0 i = (r : EReal)) (h1 : ∀ i, ∃ r : ℝ, A1 i = (r : EReal)) (h5 : a5 i0 < ⊤) :
    Cert.ReferenceIdeal.Step.R_main_v29 (iter (ini a3 a4) 64) A0 A1 A2 a5 = answer A0 A1 A2 a3 a4 a5 := by
  refine (result_eq _ A0 A1 A2 a5).trans ?_
  have hL : ∀ (b : Fin 4) (r j : Fin 8192), logit A0 A1 (iter (ini a3 a4) 64).main_v5_7 a5 (ix3 b r j)
      = ((score (reals A0) (reals A1) b r j : ℝ) : EReal) + Ideal.log ((wts a3 a4 a5 j : ℝ) : EReal) := fun b r j =>
    (logit_at A0 A1 _ a5 b r j).trans (congrArg₂ (· + ·) (score_eq A0 A1 h0 h1 b r j)
      (congrArg Ideal.log (wts_at a3 a4 a5 h5 j)))
  generalize logit A0 A1 (iter (ini a3 a4) 64).main_v5_7 a5 = L at hL ⊢
  funext i
  rw [eq_ix3 i]
  generalize i 0 = b, i 1 = r, i 2 = f
  refine (soft_at L _ A2 b r f).trans ?_
  obtain ⟨M, hM⟩ := row_max (by norm_num) (wts a3 a4 a5) (score (reals A0) (reals A1) b r)
    (wts_pos a3 a4 a5 h5) (fun j : Fin 8192 => L (ix3 b r j)) (hL b r) _ ofBits_ninf
  exact row_out (by norm_num) (wts a3 a4 a5) (score (reals A0) (reals A1) b r) (vals A2 b f)
    (wts_pos a3 a4 a5 h5) (fun j : Fin 8192 => L (ix3 b r j)) (fun j => spread (rowmax L) (ix3 b r j))
    (fun j => A2 (ix3 b j f)) M (hL b r)
    (fun j => (spread_at _ b r j).trans ((congrArg ((max : EReal → EReal → EReal) _) (rowmax_at L b r)).trans hM))
    (fun j => (vals_at A2 b f j).symm)

end Cert.Value

end
-- ==== Proof.KernelAnswer.lean ====
/-
  The kernel's result is the sum of the values by their shares.
-/
module

public import proofs.«01_k».proof.Proof.HostValue
public import proofs.«01_k».proof.Proof.RefAnswer

@[expose] public section

set_option maxRecDepth 16384

noncomputable section

namespace Cert.Value

open Idealize.ShloMosaic Idealize.ShloMosaic.TcCoe
open Cert.KernelIdeal Cert.KernelIdeal.Gen Cert.KernelIdeal.Hand

/-- Transposed values over a row of ones, at an index. -/
theorem value_ones (A2 : FVec Ideal S4x8192x64 .f32) (b : Fin 4) (f : Fin 65) (j : Fin 8192) :
    concatenate S4x65x8192 1 [⟨S4x64x8192, transpose S4x64x8192 [0, 2, 1] A2 transposes_S4x8192x64_S4x64x8192_0_2_1⟩,
      ⟨S4x1x8192, broadcastInDim S4x1x8192 ![] bcast_S_S4x1x8192 (constant (F := Ideal) S_ .f32 0x3F800000#32)⟩]
      concatenates_S4x64x8192_S4x1x8192_S4x65x8192_d1 (ix3 b f j) = vals A2 b f j := by
  by_cases hf : f.val < 64
  · rw [show vals A2 b f j = A2 (ix3 b j ⟨f.val, hf⟩) from vals_at A2 b ⟨f.val, hf⟩ j]
    pointwise []
    exact dif_pos hf
  · have e : f.val = 64 := by omega
    rw [e, vals_one]
    pointwise []
    exact dif_neg hf

/-- The first kernel's output from scalars of one entry each. -/
theorem out0_eq (a3 a4 a5 : FVec Ideal S_ .f32) (x : FVec Ideal S8x1024 .f32) :
    out0 (F := Ideal) (shapeCast S1 a3 shapeCasts_S_S1) (shapeCast S1 a4 shapeCasts_S_S1) (shapeCast S1 a5 shapeCasts_S_S1) x
      = weight x (a3 i0) (a4 i0) (a5 i0) := by
  have h : ∀ a : FVec Ideal S_ .f32, shapeCast S1 a shapeCasts_S_S1 i1 = a i0 := fun a => congrArg a (funext fun k => k.elim0)
  unfold out0
  rw [h, h, h]

variable (m : (ℓ : Loc nD τ sig) → Buf (Elt Ideal) ℓ) (ρ : Dev nD → PrngReg) (c : Dev nD)

/-- The six arguments, as arrays. -/
abbrev a0 : FVec Ideal S4x8192x64 .f32 := m ((c : Thread nD τ).loc main_arg0)
/-- The keys. -/
abbrev a1 : FVec Ideal S4x8192x64 .f32 := m ((c : Thread nD τ).loc main_arg1)
/-- The values. -/
abbrev a2 : FVec Ideal S4x8192x64 .f32 := m ((c : Thread nD τ).loc main_arg2)
/-- The real part of the constant. -/
abbrev a3 : FVec Ideal S_ .f32 := m ((c : Thread nD τ).loc main_arg3)
/-- The imaginary part of the constant. -/
abbrev a4 : FVec Ideal S_ .f32 := m ((c : Thread nD τ).loc main_arg4)
/-- The scale. -/
abbrev a5 : FVec Ideal S_ .f32 := m ((c : Thread nD τ).loc main_arg5)

/-- The row of weights the second kernel reads. -/
theorem v6_at (j : Fin 8192) : (show Vec Ideal S1x8192 .f32 from W5 m ρ c (Proc.devRef .tc main_v6)) (ix2 0 j)
    = wgt (a3 m c) (a4 m c) (a5 m c) j := by
  rw [v6_val, v5_val, v1_val, v2_val, v3_val, v4_val]
  rw [← weight_row (a3 m c) (a4 m c) (a5 m c) j]
  exact congrFun (congrArg (fun x => shapeCast S1x8192 x shapeCasts_S8x1024_S1x8192)
    (out0_eq (a3 m c) (a4 m c) (a5 m c) _)) (ix2 0 j)

/-- What the second kernel finds. -/
theorem found (h0 : ∀ i, ∃ r : ℝ, a0 m c i = (r : EReal)) (h1 : ∀ i, ∃ r : ℝ, a1 m c i = (r : EReal)) (h5 : a5 m c i0 < ⊤) :
    Found (C5 m ρ) c (reals (a0 m c)) (reals (a1 m c)) (vals (a2 m c)) (wts (a3 m c) (a4 m c) (a5 m c)) where
  hq b r d := (congrFun (W5_args m ρ c main_arg0 (by decide)) _).trans (reals_at (a0 m c) h0 b r d)
  hk b r d := (congrFun (W5_args m ρ c main_arg1 (by decide)) _).trans (reals_at (a1 m c) h1 b r d)
  hv b f j := (congrFun (v9_val m ρ c) _).trans (value_ones (a2 m c) b f j)
  hw j := (v6_at m ρ c j).trans (wts_at _ _ _ h5 j)

/-- The kernel's result, of real queries and keys and a scale below `+∞`, is the answer. -/
theorem kernel_answer (h0 : ∀ i, ∃ r : ℝ, a0 m c i = (r : EReal)) (h1 : ∀ i, ∃ r : ℝ, a1 m c i = (r : EReal)) (h5 : a5 m c i0 < ⊤) :
    (show Vec Ideal S4x8192x64 .f32 from W7 m ρ c (Proc.devRef .tc main_v11))
      = answer (a0 m c) (a1 m c) (a2 m c) (a3 m c) (a4 m c) (a5 m c) := by
  have H := flash_arr (found m ρ c h0 h1 h5) (fun b j => vals_one _ b j) (wts_pos _ _ _ h5)
  have e : (show Vec Ideal S4x64x8192 .f32 from W6 m ρ c (Proc.devRef .tc main_v10)) = _ := (W6_arr m ρ c 4).trans H
  rw [v11_val, e]
  funext i
  rw [eq_ix3 i]
  pointwise [answer]

/-- Every execution of the kernel ends with the answer and the arguments as launched. -/
theorem kernel_run (h : ∀ c, (∀ i, ∃ r : ℝ, a0 m c i = (r : EReal)) ∧ (∀ i, ∃ r : ℝ, a1 m c i = (r : EReal)) ∧ a5 m c i0 < ⊤) :
    θ_run defs (onTc (τ := τ) (main (F := Ideal))) ⟨m, fun _ => 0, ρ⟩ (fun r => ∀ c : Dev nD,
      r.2.mem ((c.tc : Thread nD τ).loc main_v11) = answer (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c =>
    have e := hr.1 c
    ⟨(e _ (mem_uc main_v11 (by decide))).trans (kernel_answer m ρ c (h c).1 (h c).2.1 (h c).2.2),
      end_arg m ρ e main_arg0 (by decide) (by decide), end_arg m ρ e main_arg1 (by decide) (by decide),
      end_arg m ρ e main_arg2 (by decide) (by decide), end_arg m ρ e main_arg3 (by decide) (by decide),
      end_arg m ρ e main_arg4 (by decide) (by decide), end_arg m ρ e main_arg5 (by decide) (by decide)⟩) (run_all m ρ)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Run
public import proofs.«01_k».proof.Proof.BitsRun
public import proofs.«01_k».proof.Proof.KernelAnswer
public import Idealize.ShloMosaic.Adequacy
public import Idealize.ShloMosaic.Init

@[expose] public section

noncomputable section

namespace Cert.Proof

open Idealize.ShloMosaic Idealize.SL.Sem Cert.Kernel

/-- The reference ends, for any memory, with its arguments as launched and no semaphore counting. -/
theorem ref_frame [Cert.ReferenceIdeal.Facts] : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition, kernel and reference end with the same result: the values summed by their shares. -/
theorem same_result [hK : Cert.KernelIdeal.Facts] [hR : Cert.ReferenceIdeal.Facts] [hP : Cert.Pre_finite_inputs.Facts] :
    Cert.algebraic_KernelIdeal_ReferenceIdeal_pre_finite_inputs := fun m ρ m' ρ' hpre hm => by
  have h := fun c => Cert.Value.pre_real (Cert.Value.a0 m c) (Cert.Value.a1 m c) (Cert.Value.a2 m c) (Cert.Value.a3 m c)
    (Cert.Value.a4 m c) (Cert.Value.a5 m c) (hpre c)
  refine ⟨fun c => Cert.Value.answer (Cert.Value.a0 m c) (Cert.Value.a1 m c) (Cert.Value.a2 m c) (Cert.Value.a3 m c)
    (Cert.Value.a4 m c) (Cert.Value.a5 m c), Cert.Value.kernel_run m ρ h, ?_⟩
  refine (θ_run Cert.ReferenceIdeal.defs _ _).mono (fun r hr c => ⟨(hr c).1.trans ?_, (hr c).2⟩)
    (Cert.ReferenceIdeal.StepRun.run_iter (F := Ideal) m' ρ'
      (fun c => Cert.Value.iter (Cert.Value.ini (Cert.Value.a3 m c) (Cert.Value.a4 m c)))
      (fun c => ?_) (fun c n => rfl))
  · obtain ⟨e0, e1, e2, e3, e4, e5⟩ := hm c
    exact (congr (congrArg Cert.Value.ini e3) e4).symm
  · obtain ⟨e0, e1, e2, e3, e4, e5⟩ := hm c
    rw [e0, e1, e2, e5]
    exact Cert.Value.ref_answer _ _ _ _ _ _ (h c).1 (h c).2.1 (h c).2.2

/-- All five claims. -/
theorem claim : Cert.Claim :=
  ⟨Cert.Kernel.Gen.facts, Cert.KernelIdeal.Gen.facts, Cert.ReferenceIdeal.Gen.facts, Cert.Value.pre_facts,
    fun m ρ _ => Cert.Kernel.Hand.frame_all m ρ,
    fun m ρ _ => Cert.KernelIdeal.Hand.frame_all m ρ,
    fun m ρ _ => Cert.KernelIdeal.Hand.frame_all m ρ,
    ref_frame,
    fun m ρ _ => ref_frame m ρ trivial,
    trivial,
    same_result (hP := Cert.Value.pre_facts)⟩

end Cert.Proof

end
